-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨4, ![2, 8, 512, 1024]⟩ ⟨4, ![2, 8, 512, 8192]⟩ 3 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![8192, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨3, ![2, 512, 8192]⟩ ⟨3, ![2, 4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8x512x1024 : Shape := ⟨4, ![2, 8, 512, 1024]⟩
abbrev S1024x8192 : Shape := ⟨2, ![1024, 8192]⟩
abbrev S2x512x8192 : Shape := ⟨3, ![2, 512, 8192]⟩
abbrev S7x2x512x8192 : Shape := ⟨4, ![7, 2, 512, 8192]⟩
abbrev S2x512x1024 : Shape := ⟨3, ![2, 512, 1024]⟩
abbrev S128x8192 : Shape := ⟨2, ![128, 8192]⟩
abbrev S14 : Shape := ⟨1, ![14]⟩
abbrev S2 : Shape := ⟨1, ![2]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S1x1x512x1024 : Shape := ⟨4, ![1, 1, 512, 1024]⟩
abbrev S1x128x1024 : Shape := ⟨3, ![1, 128, 1024]⟩
abbrev S128x1024 : Shape := ⟨2, ![128, 1024]⟩
abbrev S1x128x8192 : Shape := ⟨3, ![1, 128, 8192]⟩
abbrev S1x1x512x8192 : Shape := ⟨4, ![1, 1, 512, 8192]⟩
abbrev S512x8192 : Shape := ⟨2, ![512, 8192]⟩
abbrev S1x512x8192 : Shape := ⟨3, ![1, 512, 8192]⟩
abbrev S1x1x128x8192 : Shape := ⟨4, ![1, 1, 128, 8192]⟩

abbrev nBuf : Space → Nat
  | .hbm => 4
  | .vmem => 6
  | .smem => 0
  | _ => 0

abbrev bufTy : (tb : Table) → Fin (tcTables nBuf tb) → BufTy
  | .hbm, ⟨0, _⟩ => ⟨S2x8x512x1024, .f32⟩
  | .hbm, ⟨1, _⟩ => ⟨S1024x8192, .bf16⟩
  | .hbm, ⟨2, _⟩ => ⟨S2x512x8192, .f32⟩
  | .hbm, ⟨3, _⟩ => ⟨S7x2x512x8192, .bf16⟩
  | .local _ .vmem, ⟨0, _⟩ => ⟨S1024x8192, .bf16⟩
  | .local _ .vmem, ⟨1, _⟩ => ⟨S2x512x8192, .bf16⟩
  | .local _ .vmem, ⟨2, _⟩ => ⟨S2x512x8192, .bf16⟩
  | .local _ .vmem, ⟨3, _⟩ => ⟨S2x512x1024, .f32⟩
  | .local _ .vmem, ⟨4, _⟩ => ⟨S128x8192, .bf16⟩
  | .local _ .vmem, ⟨5, _⟩ => ⟨S128x8192, .f32⟩
  | _, _ => ⟨S2x8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩

abbrev nD : Nat := 8
abbrev τ : Topo := Topo.v7x

variable {F : FTy → Type} [FloatOps F]

abbrev grid0 : Pipeline.Grid := .none

def k0_off1 (d0 : Dev nD) : Fin 4 → Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c0_i32_9 : BitVec 32 := 0#32
  let c0_i32_10 : BitVec 32 := 0#32
  ![0, v7.toNat, 0, 0]
def k0_off2 (d0 : Dev nD) : Fin 4 → Nat :=
  let c1_i32_11 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c0_i32_16 : BitVec 32 := 0#32
  let c0_i32_17 : BitVec 32 := 0#32
  ![1, v7.toNat, 0, 0]
@[reducible] def k0_t1_loop : Scf.Loop 32 :=
  let c0_i32_25 : BitVec 32 := 0#32
  let c4_i32 : BitVec 32 := 4#32
  let v26 : BitVec 32 := Scalar.addi c0_i32_25 c4_i32
  let c1_i32_26 : BitVec 32 := 1#32
  ⟨c0_i32_25, v26, c1_i32_26⟩
def k0_off3 (k0_t1 : Fin k0_t1_loop.trips) : Fin 3 → Nat :=
  let c0 : Index := 0#32
  let c0_i32_25 : BitVec 32 := 0#32
  let c1_i32_26 : BitVec 32 := 1#32
  let arg15 : BitVec 32 := Scf.iv c0_i32_25 c1_i32_26 k0_t1
  let c128_i32 : BitVec 32 := 128#32
  let v55 : BitVec 32 := Scalar.muli arg15 c128_i32
  let v56 : Index := Scalar.indexCast v55
  let c0_64 : Index := 0#32
  ![0, v56.toNat, 0]
def k0_off4 (k0_t1 : Fin k0_t1_loop.trips) : Fin 3 → Nat :=
  let c0_67 : Index := 0#32
  let c0_i32_25 : BitVec 32 := 0#32
  let c1_i32_26 : BitVec 32 := 1#32
  let arg15 : BitVec 32 := Scf.iv c0_i32_25 c1_i32_26 k0_t1
  let c128_i32 : BitVec 32 := 128#32
  let v55 : BitVec 32 := Scalar.muli arg15 c128_i32
  let v63 : Index := Scalar.indexCast v55
  let c0_68 : Index := 0#32
  ![0, v63.toNat, 0]
def k0_dev1 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_33 : BitVec 32 := 1#32
  let v27 : BitVec 32 := Scalar.muli v4 c1_i32_33
  let v28 : BitVec 32 := Scalar.addi c0_i32_34 v27
  v28.toNat
@[reducible] def k0_t2_loop : Scf.Loop 32 :=
  let c0_i32_46 : BitVec 32 := 0#32
  let c4_i32_47 : BitVec 32 := 4#32
  let v43 : BitVec 32 := Scalar.addi c0_i32_46 c4_i32_47
  let c1_i32_48 : BitVec 32 := 1#32
  ⟨c0_i32_46, v43, c1_i32_48⟩
def k0_off5 (k0_t2 : Fin k0_t2_loop.trips) : Fin 3 → Nat :=
  let c1 : Index := 1#32
  let c0_i32_46 : BitVec 32 := 0#32
  let c1_i32_48 : BitVec 32 := 1#32
  let arg15 : BitVec 32 := Scf.iv c0_i32_46 c1_i32_48 k0_t2
  let c128_i32 : BitVec 32 := 128#32
  let v55 : BitVec 32 := Scalar.muli arg15 c128_i32
  let v56 : Index := Scalar.indexCast v55
  let c0 : Index := 0#32
  ![1, v56.toNat, 0]
def k0_off6 (k0_t2 : Fin k0_t2_loop.trips) : Fin 3 → Nat :=
  let c1_66 : Index := 1#32
  let c0_i32_46 : BitVec 32 := 0#32
  let c1_i32_48 : BitVec 32 := 1#32
  let arg15 : BitVec 32 := Scf.iv c0_i32_46 c1_i32_48 k0_t2
  let c128_i32 : BitVec 32 := 128#32
  let v55 : BitVec 32 := Scalar.muli arg15 c128_i32
  let v63 : Index := Scalar.indexCast v55
  let c0_67 : Index := 0#32
  ![1, v63.toNat, 0]
def k0_dev2 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_55 : BitVec 32 := 1#32
  let v44 : BitVec 32 := Scalar.muli v4 c1_i32_55
  let v45 : BitVec 32 := Scalar.addi c0_i32_56 v44
  v45.toNat
@[reducible] def k0_t3_loop : Scf.Loop 32 :=
  let c0_i32_61 : BitVec 32 := 0#32
  let c7_i32 : BitVec 32 := 7#32
  let v54 : BitVec 32 := Scalar.addi c0_i32_61 c7_i32
  let c1_i32_62 : BitVec 32 := 1#32
  ⟨c0_i32_61, v54, c1_i32_62⟩
def k0_off7 (d0 : Dev nD) (k0_t3 : Fin k0_t3_loop.trips) : Fin 4 → Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v55 : BitVec 32 := Scalar.addi v2 c16_i32
  let c2_i32 : BitVec 32 := 2#32
  let v56 : BitVec 32 := Scalar.subi v55 c2_i32
  let c0_i32_61 : BitVec 32 := 0#32
  let c1_i32_62 : BitVec 32 := 1#32
  let arg15 : BitVec 32 := Scf.iv c0_i32_61 c1_i32_62 k0_t3
  let v57 : BitVec 32 := Scalar.subi v56 arg15
  let c8_i32_64 : BitVec 32 := 8#32
  let v58 : BitVec 32 := Scalar.remsi v57 c8_i32_64
  let c0_i32_70 : BitVec 32 := 0#32
  let c0_i32_71 : BitVec 32 := 0#32
  ![0, v58.toNat, 0, 0]
def k0_off8 (d0 : Dev nD) (k0_t3 : Fin k0_t3_loop.trips) : Fin 4 → Nat :=
  let c1_i32_72 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v55 : BitVec 32 := Scalar.addi v2 c16_i32
  let c2_i32 : BitVec 32 := 2#32
  let v56 : BitVec 32 := Scalar.subi v55 c2_i32
  let c0_i32_61 : BitVec 32 := 0#32
  let c1_i32_62 : BitVec 32 := 1#32
  let arg15 : BitVec 32 := Scf.iv c0_i32_61 c1_i32_62 k0_t3
  let v57 : BitVec 32 := Scalar.subi v56 arg15
  let c8_i32_64 : BitVec 32 := 8#32
  let v58 : BitVec 32 := Scalar.remsi v57 c8_i32_64
  let c0_i32_77 : BitVec 32 := 0#32
  let c0_i32_78 : BitVec 32 := 0#32
  ![1, v58.toNat, 0, 0]
@[reducible] def k0_t4_loop : Scf.Loop 32 :=
  let c0_i32_86 : BitVec 32 := 0#32
  let c4_i32_87 : BitVec 32 := 4#32
  let v78 : BitVec 32 := Scalar.addi c0_i32_86 c4_i32_87
  let c1_i32_88 : BitVec 32 := 1#32
  ⟨c0_i32_86, v78, c1_i32_88⟩
def k0_off9 (k0_t4 : Fin k0_t4_loop.trips) : Fin 3 → Nat :=
  let c0 : Index := 0#32
  let c0_i32_86 : BitVec 32 := 0#32
  let c1_i32_88 : BitVec 32 := 1#32
  let arg16 : BitVec 32 := Scf.iv c0_i32_86 c1_i32_88 k0_t4
  let c128_i32 : BitVec 32 := 128#32
  let v130 : BitVec 32 := Scalar.muli arg16 c128_i32
  let v131 : Index := Scalar.indexCast v130
  let c0_150 : Index := 0#32
  ![0, v131.toNat, 0]
def k0_off10 (k0_t4 : Fin k0_t4_loop.trips) : Fin 3 → Nat :=
  let c0_153 : Index := 0#32
  let c0_i32_86 : BitVec 32 := 0#32
  let c1_i32_88 : BitVec 32 := 1#32
  let arg16 : BitVec 32 := Scf.iv c0_i32_86 c1_i32_88 k0_t4
  let c128_i32 : BitVec 32 := 128#32
  let v130 : BitVec 32 := Scalar.muli arg16 c128_i32
  let v138 : Index := Scalar.indexCast v130
  let c0_154 : Index := 0#32
  ![0, v138.toNat, 0]
@[reducible] def k0_t5_loop : Scf.Loop 32 :=
  let c0_i32_97 : BitVec 32 := 0#32
  let c4_i32_98 : BitVec 32 := 4#32
  let v85 : BitVec 32 := Scalar.addi c0_i32_97 c4_i32_98
  let c1_i32_99 : BitVec 32 := 1#32
  ⟨c0_i32_97, v85, c1_i32_99⟩
def k0_off11 (k0_t5 : Fin k0_t5_loop.trips) : Fin 3 → Nat :=
  let c1 : Index := 1#32
  let c0_i32_97 : BitVec 32 := 0#32
  let c1_i32_99 : BitVec 32 := 1#32
  let arg16 : BitVec 32 := Scf.iv c0_i32_97 c1_i32_99 k0_t5
  let c128_i32 : BitVec 32 := 128#32
  let v130 : BitVec 32 := Scalar.muli arg16 c128_i32
  let v131 : Index := Scalar.indexCast v130
  let c0 : Index := 0#32
  ![1, v131.toNat, 0]
def k0_off12 (k0_t5 : Fin k0_t5_loop.trips) : Fin 3 → Nat :=
  let c1_152 : Index := 1#32
  let c0_i32_97 : BitVec 32 := 0#32
  let c1_i32_99 : BitVec 32 := 1#32
  let arg16 : BitVec 32 := Scf.iv c0_i32_97 c1_i32_99 k0_t5
  let c128_i32 : BitVec 32 := 128#32
  let v130 : BitVec 32 := Scalar.muli arg16 c128_i32
  let v138 : Index := Scalar.indexCast v130
  let c0_153 : Index := 0#32
  ![1, v138.toNat, 0]
def k0_off13 (k0_t3 : Fin k0_t3_loop.trips) (c0_i32_104 : BitVec 32) : Fin 1 → Nat :=
  let c0_i32_61 : BitVec 32 := 0#32
  let c1_i32_62 : BitVec 32 := 1#32
  let arg15 : BitVec 32 := Scf.iv c0_i32_61 c1_i32_62 k0_t3
  let c2_i32_103 : BitVec 32 := 2#32
  let v88 : BitVec 32 := Scalar.muli arg15 c2_i32_103
  let v89 : BitVec 32 := Scalar.addi v88 c0_i32_104
  ![v89.toNat]
def k0_off14 (k0_t3 : Fin k0_t3_loop.trips) : Fin 4 → Nat :=
  let c0_i32_61 : BitVec 32 := 0#32
  let c1_i32_62 : BitVec 32 := 1#32
  let arg15 : BitVec 32 := Scf.iv c0_i32_61 c1_i32_62 k0_t3
  let c0_i32_106 : BitVec 32 := 0#32
  let c0_i32_109 : BitVec 32 := 0#32
  let c0_i32_110 : BitVec 32 := 0#32
  ![arg15.toNat, 0, 0, 0]
@[reducible] def k0_t6_loop : Scf.Loop 32 :=
  let c0_i32_120 : BitVec 32 := 0#32
  let c4_i32_121 : BitVec 32 := 4#32
  let v104 : BitVec 32 := Scalar.addi c0_i32_120 c4_i32_121
  let c1_i32_122 : BitVec 32 := 1#32
  ⟨c0_i32_120, v104, c1_i32_122⟩
def k0_off15 (k0_t3 : Fin k0_t3_loop.trips) (k0_t6 : Fin k0_t6_loop.trips) : Fin 4 → Nat :=
  let c0_i32_61 : BitVec 32 := 0#32
  let c1_i32_62 : BitVec 32 := 1#32
  let arg15 : BitVec 32 := Scf.iv c0_i32_61 c1_i32_62 k0_t3
  let c0_i32_150 : BitVec 32 := 0#32
  let c0_i32_120 : BitVec 32 := 0#32
  let c1_i32_122 : BitVec 32 := 1#32
  let arg16 : BitVec 32 := Scf.iv c0_i32_120 c1_i32_122 k0_t6
  let c128_i32 : BitVec 32 := 128#32
  let v130 : BitVec 32 := Scalar.muli arg16 c128_i32
  let c0_i32_151 : BitVec 32 := 0#32
  ![arg15.toNat, 0, v130.toNat, 0]
def k0_cond1 (k0_t3 : Fin k0_t3_loop.trips) : BitVec 1 :=
  let c0_i32_61 : BitVec 32 := 0#32
  let c1_i32_62 : BitVec 32 := 1#32
  let arg15 : BitVec 32 := Scf.iv c0_i32_61 c1_i32_62 k0_t3
  let c6_i32 : BitVec 32 := 6#32
  let v59 : BitVec 1 := Scalar.cmpi .eq arg15 c6_i32
  let true_154 : BitVec 1 := 1#1
  let v135 : BitVec 1 := Scalar.xori v59 true_154
  let v136 : BitVec 32 := Scalar.extui v135
  let c0_i32_155 : BitVec 32 := 0#32
  let v137 : BitVec 1 := Scalar.cmpi .ne v136 c0_i32_155
  v137

def k0_off16 (k0_t6 : Fin k0_t6_loop.trips) : Fin 3 → Nat :=
  let c0_158 : Index := 0#32
  let c0_i32_120 : BitVec 32 := 0#32
  let c1_i32_122 : BitVec 32 := 1#32
  let arg16 : BitVec 32 := Scf.iv c0_i32_120 c1_i32_122 k0_t6
  let c128_i32 : BitVec 32 := 128#32
  let v130 : BitVec 32 := Scalar.muli arg16 c128_i32
  let v141 : Index := Scalar.indexCast v130
  let c0_159 : Index := 0#32
  ![0, v141.toNat, 0]
def k0_cond2 (k0_t3 : Fin k0_t3_loop.trips) : BitVec 1 :=
  let c0_i32_61 : BitVec 32 := 0#32
  let c1_i32_62 : BitVec 32 := 1#32
  let arg15 : BitVec 32 := Scf.iv c0_i32_61 c1_i32_62 k0_t3
  let c6_i32 : BitVec 32 := 6#32
  let v59 : BitVec 1 := Scalar.cmpi .eq arg15 c6_i32
  let v138 : BitVec 32 := Scalar.extui v59
  let c0_i32_156 : BitVec 32 := 0#32
  let v139 : BitVec 1 := Scalar.cmpi .ne v138 c0_i32_156
  v139

def k0_off17 (k0_t6 : Fin k0_t6_loop.trips) : Fin 3 → Nat :=
  let c0_158 : Index := 0#32
  let c0_i32_120 : BitVec 32 := 0#32
  let c1_i32_122 : BitVec 32 := 1#32
  let arg16 : BitVec 32 := Scf.iv c0_i32_120 c1_i32_122 k0_t6
  let c128_i32 : BitVec 32 := 128#32
  let v130 : BitVec 32 := Scalar.muli arg16 c128_i32
  let v142 : Index := Scalar.indexCast v130
  let c0_159 : Index := 0#32
  ![0, v142.toNat, 0]
def k0_off18 (k0_t6 : Fin k0_t6_loop.trips) : Fin 3 → Nat :=
  let c0_i32_162 : BitVec 32 := 0#32
  let c0_i32_120 : BitVec 32 := 0#32
  let c1_i32_122 : BitVec 32 := 1#32
  let arg16 : BitVec 32 := Scf.iv c0_i32_120 c1_i32_122 k0_t6
  let c128_i32 : BitVec 32 := 128#32
  let v130 : BitVec 32 := Scalar.muli arg16 c128_i32
  let c0_i32_163 : BitVec 32 := 0#32
  ![0, v130.toNat, 0]
def k0_cond3 (k0_t3 : Fin k0_t3_loop.trips) : BitVec 1 :=
  let c0_i32_61 : BitVec 32 := 0#32
  let c1_i32_62 : BitVec 32 := 1#32
  let arg15 : BitVec 32 := Scf.iv c0_i32_61 c1_i32_62 k0_t3
  let c6_i32 : BitVec 32 := 6#32
  let v59 : BitVec 1 := Scalar.cmpi .eq arg15 c6_i32
  let v_true : BitVec 1 := 1#1
  let v105 : BitVec 1 := Scalar.xori v59 v_true
  let v106 : BitVec 32 := Scalar.extui v105
  let c0_i32_124 : BitVec 32 := 0#32
  let v107 : BitVec 1 := Scalar.cmpi .ne v106 c0_i32_124
  v107

def k0_off19 (k0_t3 : Fin k0_t3_loop.trips) : Fin 1 → Nat :=
  let c0_i32_61 : BitVec 32 := 0#32
  let c1_i32_62 : BitVec 32 := 1#32
  let arg15 : BitVec 32 := Scf.iv c0_i32_61 c1_i32_62 k0_t3
  let c1_i32_150 : BitVec 32 := 1#32
  let v130 : BitVec 32 := Scalar.addi arg15 c1_i32_150
  let c2_i32_151 : BitVec 32 := 2#32
  let v131 : BitVec 32 := Scalar.muli v130 c2_i32_151
  let c0_i32_152 : BitVec 32 := 0#32
  let v132 : BitVec 32 := Scalar.addi v131 c0_i32_152
  ![v132.toNat]
def k0_off20 (k0_t3 : Fin k0_t3_loop.trips) : Fin 4 → Nat :=
  let c0_i32_61 : BitVec 32 := 0#32
  let c1_i32_62 : BitVec 32 := 1#32
  let arg15 : BitVec 32 := Scf.iv c0_i32_61 c1_i32_62 k0_t3
  let c1_i32_150 : BitVec 32 := 1#32
  let v130 : BitVec 32 := Scalar.addi arg15 c1_i32_150
  let c0_i32_156 : BitVec 32 := 0#32
  let c0_i32_159 : BitVec 32 := 0#32
  let c0_i32_160 : BitVec 32 := 0#32
  ![v130.toNat, 0, 0, 0]
def k0_dev3 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_157 : BitVec 32 := 1#32
  let v135 : BitVec 32 := Scalar.muli v4 c1_i32_157
  let v136 : BitVec 32 := Scalar.addi c0_i32_158 v135
  v136.toNat
def k0_off21 (k0_t3 : Fin k0_t3_loop.trips) : Fin 4 → Nat :=
  let c0_i32_61 : BitVec 32 := 0#32
  let c1_i32_62 : BitVec 32 := 1#32
  let arg15 : BitVec 32 := Scf.iv c0_i32_61 c1_i32_62 k0_t3
  let c1_i32_130 : BitVec 32 := 1#32
  let c0_i32_133 : BitVec 32 := 0#32
  let c0_i32_134 : BitVec 32 := 0#32
  ![arg15.toNat, 1, 0, 0]
@[reducible] def k0_t7_loop : Scf.Loop 32 :=
  let c0_i32_144 : BitVec 32 := 0#32
  let c4_i32_145 : BitVec 32 := 4#32
  let v126 : BitVec 32 := Scalar.addi c0_i32_144 c4_i32_145
  let c1_i32_146 : BitVec 32 := 1#32
  ⟨c0_i32_144, v126, c1_i32_146⟩
def k0_off22 (k0_t3 : Fin k0_t3_loop.trips) (k0_t7 : Fin k0_t7_loop.trips) : Fin 4 → Nat :=
  let c0_i32_61 : BitVec 32 := 0#32
  let c1_i32_62 : BitVec 32 := 1#32
  let arg15 : BitVec 32 := Scf.iv c0_i32_61 c1_i32_62 k0_t3
  let c1_i32_150 : BitVec 32 := 1#32
  let c0_i32_144 : BitVec 32 := 0#32
  let c1_i32_146 : BitVec 32 := 1#32
  let arg16 : BitVec 32 := Scf.iv c0_i32_144 c1_i32_146 k0_t7
  let c128_i32 : BitVec 32 := 128#32
  let v130 : BitVec 32 := Scalar.muli arg16 c128_i32
  let c0_i32_151 : BitVec 32 := 0#32
  ![arg15.toNat, 1, v130.toNat, 0]
def k0_cond4 (k0_t3 : Fin k0_t3_loop.trips) : BitVec 1 :=
  let c0_i32_61 : BitVec 32 := 0#32
  let c1_i32_62 : BitVec 32 := 1#32
  let arg15 : BitVec 32 := Scf.iv c0_i32_61 c1_i32_62 k0_t3
  let c6_i32 : BitVec 32 := 6#32
  let v59 : BitVec 1 := Scalar.cmpi .eq arg15 c6_i32
  let true_154 : BitVec 1 := 1#1
  let v135 : BitVec 1 := Scalar.xori v59 true_154
  let v136 : BitVec 32 := Scalar.extui v135
  let c0_i32_155 : BitVec 32 := 0#32
  let v137 : BitVec 1 := Scalar.cmpi .ne v136 c0_i32_155
  v137

def k0_off23 (k0_t7 : Fin k0_t7_loop.trips) : Fin 3 → Nat :=
  let c1 : Index := 1#32
  let c0_i32_144 : BitVec 32 := 0#32
  let c1_i32_146 : BitVec 32 := 1#32
  let arg16 : BitVec 32 := Scf.iv c0_i32_144 c1_i32_146 k0_t7
  let c128_i32 : BitVec 32 := 128#32
  let v130 : BitVec 32 := Scalar.muli arg16 c128_i32
  let v141 : Index := Scalar.indexCast v130
  let c0_158 : Index := 0#32
  ![1, v141.toNat, 0]
def k0_cond5 (k0_t3 : Fin k0_t3_loop.trips) : BitVec 1 :=
  let c0_i32_61 : BitVec 32 := 0#32
  let c1_i32_62 : BitVec 32 := 1#32
  let arg15 : BitVec 32 := Scf.iv c0_i32_61 c1_i32_62 k0_t3
  let c6_i32 : BitVec 32 := 6#32
  let v59 : BitVec 1 := Scalar.cmpi .eq arg15 c6_i32
  let v138 : BitVec 32 := Scalar.extui v59
  let c0_i32_156 : BitVec 32 := 0#32
  let v139 : BitVec 1 := Scalar.cmpi .ne v138 c0_i32_156
  v139

def k0_off24 (k0_t7 : Fin k0_t7_loop.trips) : Fin 3 → Nat :=
  let c1 : Index := 1#32
  let c0_i32_144 : BitVec 32 := 0#32
  let c1_i32_146 : BitVec 32 := 1#32
  let arg16 : BitVec 32 := Scf.iv c0_i32_144 c1_i32_146 k0_t7
  let c128_i32 : BitVec 32 := 128#32
  let v130 : BitVec 32 := Scalar.muli arg16 c128_i32
  let v142 : Index := Scalar.indexCast v130
  let c0_158 : Index := 0#32
  ![1, v142.toNat, 0]
def k0_off25 (k0_t7 : Fin k0_t7_loop.trips) : Fin 3 → Nat :=
  let c1_i32_161 : BitVec 32 := 1#32
  let c0_i32_144 : BitVec 32 := 0#32
  let c1_i32_146 : BitVec 32 := 1#32
  let arg16 : BitVec 32 := Scf.iv c0_i32_144 c1_i32_146 k0_t7
  let c128_i32 : BitVec 32 := 128#32
  let v130 : BitVec 32 := Scalar.muli arg16 c128_i32
  let c0_i32_162 : BitVec 32 := 0#32
  ![1, v130.toNat, 0]
def k0_cond6 (k0_t3 : Fin k0_t3_loop.trips) : BitVec 1 :=
  let c0_i32_61 : BitVec 32 := 0#32
  let c1_i32_62 : BitVec 32 := 1#32
  let arg15 : BitVec 32 := Scf.iv c0_i32_61 c1_i32_62 k0_t3
  let c6_i32 : BitVec 32 := 6#32
  let v59 : BitVec 1 := Scalar.cmpi .eq arg15 c6_i32
  let true_148 : BitVec 1 := 1#1
  let v127 : BitVec 1 := Scalar.xori v59 true_148
  let v128 : BitVec 32 := Scalar.extui v127
  let c0_i32_149 : BitVec 32 := 0#32
  let v129 : BitVec 1 := Scalar.cmpi .ne v128 c0_i32_149
  v129

def k0_off26 (k0_t3 : Fin k0_t3_loop.trips) : Fin 1 → Nat :=
  let c0_i32_61 : BitVec 32 := 0#32
  let c1_i32_62 : BitVec 32 := 1#32
  let arg15 : BitVec 32 := Scf.iv c0_i32_61 c1_i32_62 k0_t3
  let c1_i32_150 : BitVec 32 := 1#32
  let v130 : BitVec 32 := Scalar.addi arg15 c1_i32_150
  let c2_i32_151 : BitVec 32 := 2#32
  let v131 : BitVec 32 := Scalar.muli v130 c2_i32_151
  let c1_i32_152 : BitVec 32 := 1#32
  let v132 : BitVec 32 := Scalar.addi v131 c1_i32_152
  ![v132.toNat]
def k0_off27 (k0_t3 : Fin k0_t3_loop.trips) : Fin 4 → Nat :=
  let c0_i32_61 : BitVec 32 := 0#32
  let c1_i32_62 : BitVec 32 := 1#32
  let arg15 : BitVec 32 := Scf.iv c0_i32_61 c1_i32_62 k0_t3
  let c1_i32_150 : BitVec 32 := 1#32
  let v130 : BitVec 32 := Scalar.addi arg15 c1_i32_150
  let c1_i32_156 : BitVec 32 := 1#32
  let c0_i32_159 : BitVec 32 := 0#32
  let c0_i32_160 : BitVec 32 := 0#32
  ![v130.toNat, 1, 0, 0]
def k0_dev4 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_157 : BitVec 32 := 1#32
  let v135 : BitVec 32 := Scalar.muli v4 c1_i32_157
  let v136 : BitVec 32 := Scalar.addi c0_i32_158 v135
  v136.toNat
-- ==== ReferenceIdeal.lean ====
abbrev S2x8x512x8192 : Shape := ⟨4, ![2, 8, 512, 8192]⟩
abbrev S8192x8192 : Shape := ⟨2, ![8192, 8192]⟩
abbrev S2x4096x8192 : Shape := ⟨3, ![2, 4096, 8192]⟩

abbrev nBuf : Space → Nat
  | .hbm => 5
  | .vmem => 0
  | .smem => 0
  | _ => 0

abbrev bufTy : (tb : Table) → Fin (tcTables nBuf tb) → BufTy
  | .hbm, ⟨0, _⟩ => ⟨S2x8x512x8192, .f32⟩
  | .hbm, ⟨1, _⟩ => ⟨S8192x8192, .bf16⟩
  | .hbm, ⟨2, _⟩ => ⟨S2x4096x8192, .f32⟩
  | .hbm, ⟨3, _⟩ => ⟨S8192x8192, .f32⟩
  | .hbm, ⟨4, _⟩ => ⟨S2x4096x8192, .f32⟩
  | _, _ => ⟨S2x8x512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Base.lean ====
/-
  What the modules of this certificate share: the resource algebra, the ring of eight devices, the kernel's
  buffers and semaphore cells, and the CONTENTS that every buffer holds at every moment as functions of the launch
  memory.

  The kernel multiplies, on each device, eight row chunks of its block of `O` with its rows of `W`, and sums the
  products around the ring: what device `c` sends at hop `s` is the sum `accF c s` of `s + 1` of these products, all of
  the same chunk; the neighbour adds its own product and passes the sum on. Two halves (the two batch entries) travel
  one behind the other, so the transfers are numbered `k = 2 s + b` for hop `s` and half `b`.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init
public import Idealize.ShloMosaic.Lib.Transfers
public import Idealize.ShloMosaic.Lib.ValueLayout

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]

/-! ## The resource algebra -/

/-- One copy of the rounds algebra over the machine's cells. -/
abbrev UR : Type := URounds (GSem nD τ sig) Unit
/-- The grid's copy, the ring's copy, and the counters of the local transfers. -/
abbrev UU : Type := UR × (UR × Counters)

local notation "𝕄" => MT nD τ sig Unit (Elt F) ℕ UU ℕ

def EP : Emb UR (MT nD τ sig Unit (Elt F) ℕ UU ℕ) :=
  (Emb.inl : Emb UR UU).trans (uEmb (nD := nD) (sig := sig) (Ix := Unit) (Val := Elt F) (Name := ℕ) (U := UU) (Lvl := ℕ)).toEmb
def ER : Emb UR (MT nD τ sig Unit (Elt F) ℕ UU ℕ) :=
  ((Emb.inl : Emb UR (UR × Counters)).trans (Emb.inr : Emb (UR × Counters) UU)).trans
    (uEmb (nD := nD) (sig := sig) (Ix := Unit) (Val := Elt F) (Name := ℕ) (U := UU) (Lvl := ℕ)).toEmb

instance EP_landsIn : (EP : Emb UR 𝕄).LandsIn (upEmb : UEmb _ 𝕄) := by unfold EP; infer_instance
instance ER_landsIn : (ER : Emb UR 𝕄).LandsIn (upEmb : UEmb _ 𝕄) := by unfold ER; infer_instance

/-- No measure of its own: no while loop, no recursion. -/
abbrev 𝒱₀ : Variants := Variants.none

/-! ## The ring -/

set_option backward.proofsInPublic true in
/-- The device `c` sends to. -/
def nxt (c : Dev nD) : Dev nD := ⟨(c.val + 1) % 8, Nat.mod_lt _ (by decide)⟩
set_option backward.proofsInPublic true in
/-- The device that sends to `c`. -/
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide
theorem nxt_injective : Function.Injective (nxt : Dev nD → Dev nD) := fun a b h => by
  simpa [prv_nxt] using congrArg prv h
/-- The ring as a permutation of the devices. -/
def ring : Dev nD ≃ Dev nD := ⟨nxt, prv, prv_nxt, nxt_prv⟩

/-! ## Semaphore cells -/

/-- The semaphore that counts the read-out of transfer `k`, -/
def sendSem (k : Fin 14) : DmaSem sig := cc0_scratch6.ix (ix1 k)
/-- and the one that counts its landing. -/
def recvSem (k : Fin 14) : DmaSem sig := cc0_scratch7.ix (ix1 k)
/-- The semaphore of the fetches into half `b` of the operand buffer. -/
def oSem (b : Fin 2) : DmaSem sig := cc0_scratch8.ix (ix1 b)

theorem sendSem_val (k : Fin 14) : (sendSem k).val = k.val := by revert k; decide
theorem recvSem_val (k : Fin 14) : (recvSem k).val = 14 + k.val := by revert k; decide
theorem oSem_val (b : Fin 2) : (oSem b).val = 28 + b.val := by revert b; decide

/-- A one-element slice of a row of semaphores, at a computed offset, is the semaphore at that offset. -/
theorem sem_slice {n : ℕ} {α : Type} (a : SemArray α (⟨1, ![n]⟩ : Shape)) (off : Fin 1 → ℕ) (inb : ∀ x, off x + S1.size x ≤ (⟨1, ![n]⟩ : Shape).size x)
    (sq : S1.Squeezes S_) (k : Fin n) (h : off 0 = k.val) :
    (((a.slice (Rect.unit (s := (⟨1, ![n]⟩ : Shape)) off S1.size inb)).squeeze S_ sq).sem) = a.ix (ix1 k) := by
  show a.ix _ = a.ix _
  refine congrArg a.ix (funext fun x => Fin.ext ?_)
  obtain rfl : x = 0 := Subsingleton.elim _ _
  rw [Rect.emb_apply]
  have hz : ∀ y : Fin 1, (y : ℕ) = 0 := fun y => by omega
  show off 0 + 1 * _ = k.val
  refine (congrArg (off 0 + 1 * ·) (hz _)).trans ?_
  show off 0 + 1 * 0 = k.val
  rw [h, Nat.mul_zero, Nat.add_zero]

abbrev sendCell (c : Dev nD) (k : Fin 14) : GSem nD τ sig := ((c : Thread nD τ), .dma (sendSem k))
abbrev recvCell (c : Dev nD) (k : Fin 14) : GSem nD τ sig := ((c : Thread nD τ), .dma (recvSem k))

/-! ## Contents -/

variable (m : (ℓ : Loc nD τ sig) → Buf (Elt F) ℓ) (ρ : Dev nD → PrngReg)

/-- Device `c`'s block of `O` and of `W` at launch. -/
def oIn (c : Dev nD) : Vec F S2x8x512x1024 .f32 := m ((c : Thread nD τ).loc main_arg0)
def wIn (c : Dev nD) : Vec F S1024x8192 .bf16 := m ((c : Thread nD τ).loc main_arg1)

/-- Chunk `j` of device `c`'s `O`, as the operand buffer holds it. -/
def ovF (c : Dev nD) (j : Fin 8) : Vec F S2x512x1024 .f32 := fun i => oIn m c (ix4 (i 0) j (i 1) (i 2))

theorem row_lt {r : ℕ} (hr : r < 512) (x : Fin 128) : 128 * (r / 128) + x.val < 512 := by have := x.isLt; omega

/-- The rows of the tile in which row `i 1` lies. -/
def tileOf (v : Vec F S2x512x1024 .f32) (i : S2x512x8192.Idx) : Vec F S1x128x1024 .f32 :=
  fun x => v (ix3 (i 0) ⟨128 * ((i 1).val / 128) + (x 1).val, row_lt (i 1).isLt (x 1)⟩ (x 2))

/-- The place of row `i 1` in its tile. -/
def inTile (i : S2x512x8192.Idx) : S1x128x8192.Idx := ix3 0 ⟨(i 1).val % 128, Nat.mod_lt _ (by decide)⟩ (i 2)

/-- The product of chunk `j` with `W`, tile by tile: what the kernel computes for it. -/
def vbF (c : Dev nD) (j : Fin 8) : FVec F S2x512x8192 .bf16 := fun i => k0_pay1 (tileOf (ovF m c j) i) (wIn m c) (inTile i)

/-- The chunk that device `c` adds at hop `s` (and, before the hops, the one it starts with). -/
def chunk (c : Dev nD) (s : ℕ) : Fin 8 := ⟨((c.val + 14) - s) % 8, Nat.mod_lt _ (by decide)⟩
def chunk0 (c : Dev nD) : Fin 8 := ⟨(c.val + 7) % 8, Nat.mod_lt _ (by decide)⟩

/-- What device `c` sends at hop `s`. -/
def accF (c : Dev nD) : ℕ → FVec F S2x512x8192 .bf16
  | 0 => vbF m c (chunk0 c)
  | s + 1 => addf (accF (prv c) s) (vbF m c (chunk c s))

/-- What device `c` leaves as its result. -/
def outF (c : Dev nD) : FVec F S2x512x8192 .f32 :=
  addf (extf .f32 (accF m (prv c) 6) bitsLt_bf16_f32) (extf .f32 (vbF m c (chunk c 6)) bitsLt_bf16_f32)

/-! ## Parts of buffers -/

/-- Half `b` of a buffer of two batch entries. -/
def hS (b : Fin 2) : Finset S2x512x8192.Idx := Finset.univ.filter fun i => (i 0).val = b.val
def hO (b : Fin 2) : Finset S2x512x1024.Idx := Finset.univ.filter fun i => (i 0).val = b.val
/-- Hop `s` and half `b` of transfer `k`. -/
def hopOf (k : Fin 14) : Fin 7 := ⟨k.val / 2, by omega⟩
def halfOf (k : Fin 14) : Fin 2 := ⟨k.val % 2, by omega⟩
/-- The landing slot of transfer `k`. -/
def slotS (k : Fin 14) : Finset S7x2x512x8192.Idx := Finset.univ.filter fun i => (i 0).val = k.val / 2 ∧ (i 1).val = k.val % 2

/-- What the landing slots of device `c` hold once filled. -/
def recvF (c : Dev nD) : Vec F S7x2x512x8192 .bf16 := fun i => accF m (prv c) (i 0).val (ix3 (i 1) (i 2) (i 3))

/-- Half `b` of the sum buffer at `f`; -/
def accPts (c : Dev nD) (b : Fin 2) (f : Vec F S2x512x8192 .bf16) : sProp 𝕄 :=
  ((c : Thread nD τ).loc cc0_scratch1) ↦[hS b]{fullShare} f
/-- landing slot `k` at `f`. -/
def slotPts (c : Dev nD) (k : Fin 14) (f : Vec F S7x2x512x8192 .bf16) : sProp 𝕄 :=
  ((c : Thread nD τ).loc main_v1_1) ↦[slotS k]{fullShare} f
/-- half `b` of the operand buffer at `f`. -/
def ovPts (c : Dev nD) (b : Fin 2) (f : Vec F S2x512x1024 .f32) : sProp 𝕄 :=
  ((c : Thread nD τ).loc cc0_scratch3) ↦[hO b]{fullShare} f

omit [FloatOps F] in
instance accPts_storable (c : Dev nD) (b : Fin 2) (f : Vec F S2x512x8192 .bf16) :
    BI.Storable (upEmb : UEmb _ 𝕄) (accPts (F := F) c b f) := by unfold accPts; infer_instance
omit [FloatOps F] in
instance slotPts_storable (c : Dev nD) (k : Fin 14) (f : Vec F S7x2x512x8192 .bf16) :
    BI.Storable (upEmb : UEmb _ 𝕄) (slotPts (F := F) c k f) := by unfold slotPts; infer_instance

/-! ## The ring's schedule -/

/-- A view of one half of the sum buffer, as the transfers name it; its credit is what each transfer counts. -/
abbrev accV (b : Fin 2) (inb : ∀ a, (![b.val, 0, 0] : Fin 3 → ℕ) a + S1x512x8192.size a ≤ S2x512x8192.size a) : Memref sig .tc .vmem S512x8192 .bf16 :=
  ((Memref.whole cc0_scratch1).slice (Rect.unit (s := S2x512x8192) ![b.val, 0, 0] S1x512x8192.size inb) (fun _ => rfl)).squeeze S512x8192 squeezes_S1x512x8192_S512x8192
/-- A view of one landing slot. -/
abbrev slotV (off : Fin 4 → ℕ) (inb : ∀ a, off a + S1x1x512x8192.size a ≤ S7x2x512x8192.size a) : Memref sig .tc .hbm S512x8192 .bf16 :=
  ((Memref.whole main_v1_1).slice (Rect.unit (s := S7x2x512x8192) off S1x1x512x8192.size inb) (fun _ => rfl)).squeeze S512x8192 squeezes_S1x1x512x8192_S512x8192

/-- What one transfer credits. -/
def N : ℕ := (slotV ![0, 0, 0, 0] inb_S7x2x512x8192_S1x1x512x8192_0_0_0_0).view.dmaCredit

theorem N_pos : 0 < N := View.dmaCredit_pos _ (by decide)

/-- What the read-out of transfer `k` hands back to its sender: the half it read. -/
def sendPay (c : Dev nD) (k : Fin 14) : sProp 𝕄 := accPts c (halfOf k) (accF m c (hopOf k).val)
/-- What the landing of transfer `k` hands its receiver: the slot, filled. -/
def recvPay (c : Dev nD) (k : Fin 14) : sProp 𝕄 := slotPts c k (recvF m c)

/-- The ring's cells: the read-out and landing semaphores of the TensorCores. -/
def IsRing (g : GSem nD τ sig) : Prop :=
  g.1.2 = .tc ∧ ∃ k : Fin 14, g.2 = .dma (sendSem k) ∨ g.2 = .dma (recvSem k)

instance (g : GSem nD τ sig) : Decidable (IsRing g) := by unfold IsRing; infer_instance

open Classical in
/-- One round of one duty on each of the ring's cells; each is worth one transfer's credit. -/
def ringRd : Rounds.Schedule (GSem nD τ sig) Unit 𝕄 where
  duties g r := if r = 0 ∧ IsRing g then {()} else ∅
  unitless _ := False
  amount _ _ _ := N
  payload g _ _ :=
    if h : ∃ k : Fin 14, g.2 = .dma (sendSem k) then sendPay m g.1.1 h.choose
    else if h : ∃ k : Fin 14, g.2 = .dma (recvSem k) then recvPay m g.1.1 h.choose
    else iprop(emp)
  amount_pos _ _ _ _ := N_pos

instance ringRd_storable (g : GSem nD τ sig) (r : ℕ) (d : Unit) :
    BI.Storable (upEmb : UEmb _ 𝕄) ((ringRd (F := F) m).payload g r d) := by
  dsimp only [ringRd]
  unfold sendPay recvPay
  split
  · infer_instance
  · split <;> infer_instance

theorem sendSem_inj {j k : Fin 14} (h : sendSem j = sendSem k) : j = k :=
  Fin.ext (by rw [← sendSem_val, ← sendSem_val, h])
theorem recvSem_inj {j k : Fin 14} (h : recvSem j = recvSem k) : j = k :=
  Fin.ext (by have := congrArg Fin.val h; rw [recvSem_val, recvSem_val] at this; omega)
theorem send_ne_recv (j k : Fin 14) : sendSem j ≠ recvSem k := fun h => by
  have := congrArg Fin.val h; rw [sendSem_val, recvSem_val] at this; omega

theorem duties_send (c : Dev nD) (k : Fin 14) : (ringRd (F := F) m).duties (sendCell c k) 0 = {()} := by
  dsimp only [ringRd]; exact if_pos ⟨rfl, rfl, k, .inl rfl⟩
theorem duties_recv (c : Dev nD) (k : Fin 14) : (ringRd (F := F) m).duties (recvCell c k) 0 = {()} := by
  dsimp only [ringRd]; exact if_pos ⟨rfl, rfl, k, .inr rfl⟩
theorem duties_later (g : GSem nD τ sig) : ∀ r, 1 ≤ r → (ringRd (F := F) m).duties g r = ∅ :=
  fun r hr => by dsimp only [ringRd]; exact if_neg fun h => by omega
theorem amount_all (g : GSem nD τ sig) (r : ℕ) (d : Unit) : (ringRd (F := F) m).amount g r d = N := rfl

theorem payload_send (c : Dev nD) (k : Fin 14) (r : ℕ) (d : Unit) : (ringRd (F := F) m).payload (sendCell c k) r d = sendPay m c k := by
  dsimp only [ringRd]
  have h : ∃ j : Fin 14, (SemLoc.dma (sendSem k) : SemLoc sig) = .dma (sendSem j) := ⟨k, rfl⟩
  rw [dif_pos h]
  have hk : h.choose = k := (sendSem_inj (SemLoc.dma.inj h.choose_spec)).symm
  rw [hk]
theorem payload_recv (c : Dev nD) (k : Fin 14) (r : ℕ) (d : Unit) : (ringRd (F := F) m).payload (recvCell c k) r d = recvPay m c k := by
  dsimp only [ringRd]
  have h : ∃ j : Fin 14, (SemLoc.dma (recvSem k) : SemLoc sig) = .dma (recvSem j) := ⟨k, rfl⟩
  have hn : ¬ ∃ j : Fin 14, (SemLoc.dma (recvSem k) : SemLoc sig) = .dma (sendSem j) :=
    fun ⟨j, hj⟩ => send_ne_recv j k (SemLoc.dma.inj hj).symm
  rw [dif_neg hn, dif_pos h]
  have hk : h.choose = k := (recvSem_inj (SemLoc.dma.inj h.choose_spec)).symm
  rw [hk]

theorem expect_send (c : Dev nD) (k : Fin 14) : (ringRd (F := F) m).expect (sendCell c k) 0 = N := by
  unfold Rounds.Schedule.expect Rounds.Schedule.amountOf; rw [duties_send, Finset.sum_singleton]; rfl
theorem expect_recv (c : Dev nD) (k : Fin 14) : (ringRd (F := F) m).expect (recvCell c k) 0 = N := by
  unfold Rounds.Schedule.expect Rounds.Schedule.amountOf; rw [duties_recv, Finset.sum_singleton]; rfl

theorem rest_send (c : Dev nD) (k : Fin 14) :
    (bigSep ((ringRd (F := F) m).duties (sendCell c k) 0 \ ∅) fun d => (ringRd (F := F) m).payload (sendCell c k) 0 d) = sendPay m c k := by
  rw [duties_send, Finset.sdiff_empty, bigSep_singleton, payload_send]
theorem rest_recv (c : Dev nD) (k : Fin 14) :
    (bigSep ((ringRd (F := F) m).duties (recvCell c k) 0 \ ∅) fun d => (ringRd (F := F) m).payload (recvCell c k) 0 d) = recvPay m c k := by
  rw [duties_recv, Finset.sdiff_empty, bigSep_singleton, payload_recv]

/-! ## What is owed, and the levels -/

/-- What device `c` owes while transfers `k, k + 1, …` are still to be started: the credit of each at its receiver. -/
def owedFrom (c : Dev nD) (k : ℕ) : CellTallies nD τ sig Unit :=
  ∑ j ∈ Finset.univ.filter (fun j : Fin 14 => k ≤ j.val), tallyAt (recvCell (nxt c) j) () N

theorem owedFrom_step (c : Dev nD) (k : Fin 14) :
    owedFrom c k.val = owedFrom c (k.val + 1) + tallyAt (recvCell (nxt c) k) () N := by
  unfold owedFrom
  have h : (Finset.univ.filter fun j : Fin 14 => k.val ≤ j.val) = insert k (Finset.univ.filter fun j : Fin 14 => k.val + 1 ≤ j.val) := by
    ext j
    simp only [Finset.mem_filter, Finset.mem_univ, true_and, Finset.mem_insert, Fin.ext_iff]
    omega
  rw [h, Finset.sum_insert (by simp), add_comm]

theorem owedFrom_last (c : Dev nD) : owedFrom c 14 = 0 := by
  unfold owedFrom
  refine Finset.sum_eq_zero fun j hj => ?_
  have := (Finset.mem_filter.mp hj).2
  omega

/-- Every TensorCore cell has the one index; -/
def L (g : GSem nD τ sig) : Finset Unit := if g.1.2 = .tc then {()} else ∅
/-- the landing cells are above all others, in the order of the transfers. -/
def lv (g : GSem nD τ sig) (_ : Unit) : ℕ :=
  match g.2 with
  | .dma n => if n.val < 14 then 0 else if n.val < 28 then n.val - 13 else 0
  | .reg _ => 0

theorem L_of_ne (g : GSem nD τ sig) (h : g.1.2 ≠ .tc) : L g = ∅ := if_neg h
theorem mem_L (c : Dev nD) (sm : SemLoc sig) : () ∈ L ((c : Thread nD τ), sm) := by
  unfold L; rw [if_pos rfl]; exact Finset.mem_singleton_self _
theorem lv_recv (c : Dev nD) (k : Fin 14) : lv (recvCell c k) () = k.val + 1 := by
  show (if (recvSem k).val < 14 then 0 else if (recvSem k).val < 28 then (recvSem k).val - 13 else 0) = _
  rw [recvSem_val, if_neg (by omega), if_pos (by omega)]; omega
theorem lv_send (c : Dev nD) (k : Fin 14) : lv (sendCell c k) () = 0 := by
  show (if (sendSem k).val < 14 then 0 else if (sendSem k).val < 28 then (sendSem k).val - 13 else 0) = _
  rw [sendSem_val, if_pos k.isLt]

/-- While transfers from `k` on are owed, device `c` may wait on any of its cells of level at most `k`. -/
theorem mayWait_owed (c : Dev nD) (sm : SemLoc sig) (k : ℕ) (h : lv ((c : Thread nD τ), sm) () ≤ k) :
    (levAts L lv : sProp 𝕄) ⊢ MayWait (c : Thread nD τ) sm () (owedFrom c k) :=
  Pipeline.mayWait_of_levAts (mem_L c sm) fun g i hg => by
    obtain ⟨j, hj, hp⟩ := Pipeline.sum_pos_exists hg
    have hkj := (Finset.mem_filter.mp hj).2
    have hgj : g = recvCell (nxt c) j := by
      by_contra hne
      rw [tallyAt_ne_cell hne] at hp
      exact absurd hp (Nat.lt_irrefl _)
    subst hgj
    cases i
    exact ⟨mem_L _ _, by rw [lv_recv]; omega⟩

theorem mayWait_recv (c : Dev nD) (k : Fin 14) (n : ℕ) (h : k.val + 1 ≤ n) :
    (levAts L lv : sProp 𝕄) ⊢ MayWait (c : Thread nD τ) (.dma (recvSem k)) () (owedFrom c n) :=
  mayWait_owed c _ n (by rw [lv_recv]; omega)
theorem mayWait_send (c : Dev nD) (k : Fin 14) (n : ℕ) :
    (levAts L lv : sProp 𝕄) ⊢ MayWait (c : Thread nD τ) (.dma (sendSem k)) () (owedFrom c n) :=
  mayWait_owed c _ n (by rw [lv_send]; omega)
/-- A local semaphore — none of the ring's. -/
theorem mayWait_local (c : Dev nD) (sm : DmaSem sig) (hs : 28 ≤ sm.val) (n : ℕ) :
    (levAts L lv : sProp 𝕄) ⊢ MayWait (c : Thread nD τ) (.dma sm) () (owedFrom c n) :=
  mayWait_owed c _ n (by
    show (if sm.val < 14 then 0 else if sm.val < 28 then sm.val - 13 else 0) ≤ n
    rw [if_neg (by omega), if_neg (by omega)]; omega)

end Cert.Proof.K

end
-- ==== Proof.Slices.lean ====
/-
  The kernel's memref views, by coordinates: which elements each covers, what a copy between two of them leaves, what
  a load of a tile reads and what a store of one leaves.
-/
module

public import proofs.«01_k».proof.Proof.Base

@[expose] public section

noncomputable section

namespace Cert.Proof.K

open Cert.KernelIdeal Cert.KernelIdeal.Gen
open Idealize.ShloMosaic Idealize.ShloMosaic.TcCoe Idealize.ShloMosaic.ValueIdx

variable {F : FTy → Type} [FloatOps F]

/-! ## Where the elements of a view lie -/

section Emb

variable {sp : Space} {e : EltTy}

/-- A `1 × a × b` slice of a three-axis buffer, its unit axis dropped: element `(x, y)` lies at `off + (0, x, y)`. -/
theorem emb3 {n a b a' b' : ℕ} {V : View sig .tc sp (⟨3, ![n, a', b']⟩ : Shape) e} (off : Fin 3 → ℕ)
    (inb : ∀ x, off x + (![1, a, b] : Fin 3 → ℕ) x ≤ (⟨3, ![n, a', b']⟩ : Shape).size x)
    (h : (⟨2, ![a, b]⟩ : Shape).numel = (⟨3, ![1, a, b]⟩ : Shape).numel)
    (x : Fin a) (y : Fin b) (h0 : off 0 < n) (h1 : off 1 + x.val < a') (h2 : off 2 + y.val < b') :
    ((V.slice (Rect.unit (s := (⟨3, ![n, a', b']⟩ : Shape)) off (![1, a, b]) inb)).reshape (⟨2, ![a, b]⟩ : Shape) h).emb (ix2 x y)
      = V.emb (ix3 ⟨off 0, h0⟩ ⟨off 1 + x.val, h1⟩ ⟨off 2 + y.val, h2⟩) := by
  show V.emb ((Rect.unit (s := (⟨3, ![n, a', b']⟩ : Shape)) off (![1, a, b]) inb).emb (Shape.reshapeEquiv h (ix2 x y))) = _
  rw [reshapeEquiv_ix2_1ab]
  refine congrArg V.emb (funext fun z => Fin.ext ?_)
  rw [Rect.emb_apply]
  fin_cases z
  · show off 0 + 1 * 0 = off 0; omega
  · show off 1 + 1 * x.val = off 1 + x.val; omega
  · show off 2 + 1 * y.val = off 2 + y.val; omega

/-- The same for a `1 × 1 × a × b` slice of a four-axis buffer. -/
theorem emb4 {n n' a b a' b' : ℕ} {V : View sig .tc sp (⟨4, ![n, n', a', b']⟩ : Shape) e} (off : Fin 4 → ℕ)
    (inb : ∀ x, off x + (![1, 1, a, b] : Fin 4 → ℕ) x ≤ (⟨4, ![n, n', a', b']⟩ : Shape).size x)
    (h : (⟨2, ![a, b]⟩ : Shape).numel = (⟨4, ![1, 1, a, b]⟩ : Shape).numel)
    (x : Fin a) (y : Fin b) (h0 : off 0 < n) (h1 : off 1 < n') (h2 : off 2 + x.val < a') (h3 : off 3 + y.val < b') :
    ((V.slice (Rect.unit (s := (⟨4, ![n, n', a', b']⟩ : Shape)) off (![1, 1, a, b]) inb)).reshape (⟨2, ![a, b]⟩ : Shape) h).emb (ix2 x y)
      = V.emb (ix4 ⟨off 0, h0⟩ ⟨off 1, h1⟩ ⟨off 2 + x.val, h2⟩ ⟨off 3 + y.val, h3⟩) := by
  show V.emb ((Rect.unit (s := (⟨4, ![n, n', a', b']⟩ : Shape)) off (![1, 1, a, b]) inb).emb (Shape.reshapeEquiv h (ix2 x y))) = _
  rw [reshapeEquiv_ix2_11ab]
  refine congrArg V.emb (funext fun z => Fin.ext ?_)
  rw [Rect.emb_apply]
  fin_cases z
  · show off 0 + 1 * 0 = off 0; omega
  · show off 1 + 1 * 0 = off 1; omega
  · show off 2 + 1 * x.val = off 2 + x.val; omega
  · show off 3 + 1 * y.val = off 3 + y.val; omega

end Emb

/-! ## The views the kernel names -/

/-- A chunk of `O`, -/
abbrev inV (off : Fin 4 → ℕ) (inb : ∀ a, off a + S1x1x512x1024.size a ≤ S2x8x512x1024.size a) : Memref sig .tc .hbm S512x1024 .f32 :=
  ((Memref.whole main_arg0).slice (Rect.unit (s := S2x8x512x1024) off S1x1x512x1024.size inb) (fun _ => rfl)).squeeze S512x1024 squeezes_S1x1x512x1024_S512x1024
/-- a half of the operand buffer, -/
abbrev ovV (off : Fin 3 → ℕ) (inb : ∀ a, off a + S1x512x1024.size a ≤ S2x512x1024.size a) : Memref sig .tc .vmem S512x1024 .f32 :=
  ((Memref.whole cc0_scratch3).slice (Rect.unit (s := S2x512x1024) off S1x512x1024.size inb) (fun _ => rfl)).squeeze S512x1024 squeezes_S1x512x1024_S512x1024
/-- a half of the sum buffer, -/
abbrev acV (off : Fin 3 → ℕ) (inb : ∀ a, off a + S1x512x8192.size a ≤ S2x512x8192.size a) : Memref sig .tc .vmem S512x8192 .bf16 :=
  ((Memref.whole cc0_scratch1).slice (Rect.unit (s := S2x512x8192) off S1x512x8192.size inb) (fun _ => rfl)).squeeze S512x8192 squeezes_S1x512x8192_S512x8192
/-- a tile of rows of a landing slot, -/
abbrev rtV (off : Fin 4 → ℕ) (inb : ∀ a, off a + S1x1x128x8192.size a ≤ S7x2x512x8192.size a) : Memref sig .tc .hbm S128x8192 .bf16 :=
  ((Memref.whole main_v1_1).slice (Rect.unit (s := S7x2x512x8192) off S1x1x128x8192.size inb) (fun _ => rfl)).squeeze S128x8192 squeezes_S1x1x128x8192_S128x8192
/-- a tile of rows of the result. -/
abbrev otV (off : Fin 3 → ℕ) (inb : ∀ a, off a + S1x128x8192.size a ≤ S2x512x8192.size a) : Memref sig .tc .hbm S128x8192 .f32 :=
  ((Memref.whole main_v1_0).slice (Rect.unit (s := S2x512x8192) off S1x128x8192.size inb) (fun _ => rfl)).squeeze S128x8192 squeezes_S1x128x8192_S128x8192

theorem mem_hS (b : Fin 2) (i : S2x512x8192.Idx) : i ∈ hS b ↔ (i 0).val = b.val := by simp [hS]
theorem mem_hO (b : Fin 2) (i : S2x512x1024.Idx) : i ∈ hO b ↔ (i 0).val = b.val := by simp [hO]
theorem mem_slotS (k : Fin 14) (i : S7x2x512x8192.Idx) : i ∈ slotS k ↔ (i 0).val = k.val / 2 ∧ (i 1).val = k.val % 2 := by simp [slotS]

theorem hS_split {b : Fin 2} {i : S2x512x8192.Idx} (h : (i 0).val = b.val) : ∃ (x : Fin 512) (y : Fin 8192), i = ix3 b x y :=
  ⟨i 1, i 2, funext fun z => Fin.ext (by fin_cases z; exacts [h, rfl, rfl])⟩
theorem hO_split {b : Fin 2} {i : S2x512x1024.Idx} (h : (i 0).val = b.val) : ∃ (x : Fin 512) (y : Fin 1024), i = ix3 b x y :=
  ⟨i 1, i 2, funext fun z => Fin.ext (by fin_cases z; exacts [h, rfl, rfl])⟩
theorem slot_split {u : Fin 7} {b : Fin 2} {i : S7x2x512x8192.Idx} (h : (i 0).val = u.val) (h' : (i 1).val = b.val) :
    ∃ (x : Fin 512) (y : Fin 8192), i = ix4 u b x y :=
  ⟨i 2, i 3, funext fun z => Fin.ext (by fin_cases z; exacts [h, h', rfl, rfl])⟩

/-- A half of the sum buffer covers the elements of that batch entry. -/
theorem acV_set (b : Fin 2) (off : Fin 3 → ℕ) (h : off = ![b.val, 0, 0]) (inb) : (acV off inb).view.set = hS b := by
  subst h
  show ((View.whole cc0_scratch1).slice _ |>.reshape _ _).set = _
  rw [View.set_reshape, View.set_slice_whole]
  ext i
  rw [mem_hS, Rect.mem_set_unit]
  constructor
  · intro hi
    have h0 : b.val ≤ (i 0).val ∧ (i 0).val < b.val + 1 := hi 0
    omega
  · intro hi
    obtain ⟨x, y, rfl⟩ := hS_split hi
    intro z
    fin_cases z
    · exact ⟨Nat.le_refl b.val, Nat.lt_succ_self b.val⟩
    · exact ⟨Nat.zero_le x.val, (by have := x.isLt; omega : x.val < 0 + 512)⟩
    · exact ⟨Nat.zero_le y.val, (by have := y.isLt; omega : y.val < 0 + 8192)⟩

theorem ovV_set (b : Fin 2) (off : Fin 3 → ℕ) (h : off = ![b.val, 0, 0]) (inb) : (ovV off inb).view.set = hO b := by
  subst h
  show ((View.whole cc0_scratch3).slice _ |>.reshape _ _).set = _
  rw [View.set_reshape, View.set_slice_whole]
  ext i
  rw [mem_hO, Rect.mem_set_unit]
  constructor
  · intro hi
    have h0 : b.val ≤ (i 0).val ∧ (i 0).val < b.val + 1 := hi 0
    omega
  · intro hi
    obtain ⟨x, y, rfl⟩ := hO_split hi
    intro z
    fin_cases z
    · exact ⟨Nat.le_refl b.val, Nat.lt_succ_self b.val⟩
    · exact ⟨Nat.zero_le x.val, (by have := x.isLt; omega : x.val < 0 + 512)⟩
    · exact ⟨Nat.zero_le y.val, (by have := y.isLt; omega : y.val < 0 + 1024)⟩

/-- The hop and the half of transfer `k`, as coordinates. -/
def kHop (k : Fin 14) : Fin 7 := ⟨k.val / 2, by have := k.isLt; omega⟩
def kHalf (k : Fin 14) : Fin 2 := ⟨k.val % 2, Nat.mod_lt _ (by decide)⟩

theorem slotV_set (k : Fin 14) (off : Fin 4 → ℕ) (h : off = ![k.val / 2, k.val % 2, 0, 0]) (inb) : (slotV off inb).view.set = slotS k := by
  subst h
  show ((View.whole main_v1_1).slice _ |>.reshape _ _).set = _
  rw [View.set_reshape, View.set_slice_whole]
  ext i
  rw [mem_slotS, Rect.mem_set_unit]
  constructor
  · intro hi
    have h0 : k.val / 2 ≤ (i 0).val ∧ (i 0).val < k.val / 2 + 1 := hi 0
    have h1 : k.val % 2 ≤ (i 1).val ∧ (i 1).val < k.val % 2 + 1 := hi 1
    omega
  · intro hi
    obtain ⟨x, y, rfl⟩ := slot_split (u := kHop k) (b := kHalf k) hi.1 hi.2
    intro z
    fin_cases z
    · exact ⟨Nat.le_refl (k.val / 2), Nat.lt_succ_self (k.val / 2)⟩
    · exact ⟨Nat.le_refl (k.val % 2), Nat.lt_succ_self (k.val % 2)⟩
    · exact ⟨Nat.zero_le x.val, (by have := x.isLt; omega : x.val < 0 + 512)⟩
    · exact ⟨Nat.zero_le y.val, (by have := y.isLt; omega : y.val < 0 + 8192)⟩

/-! ## Copies -/

/-- Fetching chunk `j` of `O` into half `b`: the half then holds the chunk. -/
theorem fetch_eq (b : Fin 2) (j : Fin 8) (off : Fin 4 → ℕ) (h : off = ![b.val, j.val, 0, 0]) (inb)
    (off' : Fin 3 → ℕ) (h' : off' = ![b.val, 0, 0]) (inb')
    (fs : Vec F S2x8x512x1024 .f32) (fd : Vec F S2x512x1024 .f32) (i : S2x512x1024.Idx) (hi : i ∈ hO b) :
    (ovV off' inb').view.write (Elt F) fd ((inV off inb).view.read (Elt F) fs) Finset.univ i = fs (ix4 (i 0) j (i 1) (i 2)) := by
  subst h h'
  obtain ⟨x, y, rfl⟩ := hO_split ((mem_hO b i).mp hi)
  have hx := x.isLt
  have hy := y.isLt
  have he : (ovV ![b.val, 0, 0] inb').view.emb (ix2 x y) = ix3 b x y := by
    refine (emb3 (V := View.whole cc0_scratch3) ![b.val, 0, 0] inb' squeezes_S1x512x1024_S512x1024.numel_eq x y b.isLt
      (by show 0 + x.val < 512; omega) (by show 0 + y.val < 1024; omega)).trans (funext fun z => Fin.ext ?_)
    fin_cases z
    · rfl
    · exact Nat.zero_add x.val
    · exact Nat.zero_add y.val
  have hs : (inV ![b.val, j.val, 0, 0] inb).view.emb (ix2 x y) = ix4 b j x y := by
    refine (emb4 (V := View.whole main_arg0) ![b.val, j.val, 0, 0] inb squeezes_S1x1x512x1024_S512x1024.numel_eq x y b.isLt j.isLt
      (by show 0 + x.val < 512; omega) (by show 0 + y.val < 1024; omega)).trans (funext fun z => Fin.ext ?_)
    fin_cases z
    · rfl
    · rfl
    · exact Nat.zero_add x.val
    · exact Nat.zero_add y.val
  have hw := View.write_emb_of_mem (Val := Elt F) (v := (ovV ![b.val, 0, 0] inb').view) fd ((inV ![b.val, j.val, 0, 0] inb).view.read (Elt F) fs)
    (M := Finset.univ) (x := ix2 x y) (Finset.mem_univ _)
  rw [he] at hw
  exact hw.trans (congrArg fs hs)

/-- Sending half `b` of the sum buffer to a landing slot. -/
theorem land_eq (k : Fin 14) (off : Fin 4 → ℕ) (h : off = ![k.val / 2, k.val % 2, 0, 0]) (inb)
    (off' : Fin 3 → ℕ) (h' : off' = ![k.val % 2, 0, 0]) (inb')
    (fs : Vec F S2x512x8192 .bf16) (fd : Vec F S7x2x512x8192 .bf16) (i : S7x2x512x8192.Idx) (hi : i ∈ slotS k) :
    (slotV off inb).view.write (Elt F) fd ((acV off' inb').view.read (Elt F) fs) Finset.univ i = fs (ix3 (i 1) (i 2) (i 3)) := by
  subst h h'
  obtain ⟨x, y, rfl⟩ := slot_split (u := kHop k) (b := kHalf k) ((mem_slotS k i).mp hi).1 ((mem_slotS k i).mp hi).2
  have hx := x.isLt
  have hy := y.isLt
  have he : (slotV ![k.val / 2, k.val % 2, 0, 0] inb).view.emb (ix2 x y) = ix4 (kHop k) (kHalf k) x y := by
    refine (emb4 (V := View.whole main_v1_1) ![k.val / 2, k.val % 2, 0, 0] inb squeezes_S1x1x512x8192_S512x8192.numel_eq x y
      (kHop k).isLt (kHalf k).isLt
      (by show 0 + x.val < 512; omega) (by show 0 + y.val < 8192; omega)).trans (funext fun z => Fin.ext ?_)
    fin_cases z
    · rfl
    · rfl
    · exact Nat.zero_add x.val
    · exact Nat.zero_add y.val
  have hs : (acV ![k.val % 2, 0, 0] inb').view.emb (ix2 x y) = ix3 (kHalf k) x y := by
    refine (emb3 (V := View.whole cc0_scratch1) ![k.val % 2, 0, 0] inb' squeezes_S1x512x8192_S512x8192.numel_eq x y (kHalf k).isLt
      (by show 0 + x.val < 512; omega) (by show 0 + y.val < 8192; omega)).trans (funext fun z => Fin.ext ?_)
    fin_cases z
    · rfl
    · exact Nat.zero_add x.val
    · exact Nat.zero_add y.val
  have hw := View.write_emb_of_mem (Val := Elt F) (v := (slotV ![k.val / 2, k.val % 2, 0, 0] inb).view) fd ((acV ![k.val % 2, 0, 0] inb').view.read (Elt F) fs)
    (M := Finset.univ) (x := ix2 x y) (Finset.mem_univ _)
  rw [he] at hw
  exact hw.trans (congrArg fs hs)

/-- Fetching tile `t` of a landing slot into the tile buffer. -/
theorem rtV_read (k : Fin 14) (t : ℕ) (ht : t < 4) (off : Fin 4 → ℕ) (h : off = ![k.val / 2, k.val % 2, 128 * t, 0]) (inb)
    (fs : Vec F S7x2x512x8192 .bf16) (x : Fin 128) (y : Fin 8192) :
    (rtV off inb).view.read (Elt F) fs (ix2 x y) = fs (ix4 (kHop k) (kHalf k) ⟨128 * t + x.val, by have := x.isLt; omega⟩ y) := by
  subst h
  have hy := y.isLt
  have hx := x.isLt
  show fs ((rtV ![k.val / 2, k.val % 2, 128 * t, 0] inb).view.emb (ix2 x y)) = _
  refine congrArg fs ((emb4 (V := View.whole main_v1_1) ![k.val / 2, k.val % 2, 128 * t, 0] inb squeezes_S1x1x128x8192_S128x8192.numel_eq x y
    (kHop k).isLt (kHalf k).isLt (by show 128 * t + x.val < 512; omega) (by show 0 + y.val < 8192; omega)).trans (funext fun z => Fin.ext ?_))
  fin_cases z
  · rfl
  · rfl
  · rfl
  · exact Nat.zero_add y.val

theorem rtV_subset (k : Fin 14) (t : ℕ) (off : Fin 4 → ℕ) (h : off = ![k.val / 2, k.val % 2, 128 * t, 0]) (inb) :
    (rtV off inb).view.set ⊆ slotS k := by
  subst h
  show ((View.whole main_v1_1).slice _ |>.reshape _ _).set ⊆ _
  rw [View.set_reshape, View.set_slice_whole]
  intro i hi
  rw [Rect.mem_set_unit] at hi
  rw [mem_slotS]
  have h0 : k.val / 2 ≤ (i 0).val ∧ (i 0).val < k.val / 2 + 1 := hi 0
  have h1 : k.val % 2 ≤ (i 1).val ∧ (i 1).val < k.val % 2 + 1 := hi 1
  omega

/-- A row and the tile it lies in. -/
theorem row_split {t : ℕ} (ht : t < 4) {x : Fin 512} (h : x.val / 128 = t) : ∃ r : Fin 128, x = ⟨128 * t + r.val, by have := r.isLt; omega⟩ :=
  ⟨⟨x.val % 128, Nat.mod_lt _ (by decide)⟩, Fin.ext (by show x.val = 128 * t + x.val % 128; omega)⟩

theorem otV_emb (b : Fin 2) (t : ℕ) (ht : t < 4) (inb) (r : Fin 128) (y : Fin 8192) :
    (otV ![b.val, 128 * t, 0] inb).view.emb (ix2 r y) = ix3 b ⟨128 * t + r.val, by have := r.isLt; omega⟩ y := by
  have hy := y.isLt
  have hr := r.isLt
  refine (emb3 (V := View.whole main_v1_0) ![b.val, 128 * t, 0] inb squeezes_S1x128x8192_S128x8192.numel_eq r y b.isLt
    (by show 128 * t + r.val < 512; omega) (by show 0 + y.val < 8192; omega)).trans (funext fun z => Fin.ext ?_)
  fin_cases z
  · rfl
  · rfl
  · exact Nat.zero_add y.val

/-- Writing a tile of the result: the tile's elements are the written ones, -/
theorem otV_write_in (b : Fin 2) (t : ℕ) (ht : t < 4) (off : Fin 3 → ℕ) (h : off = ![b.val, 128 * t, 0]) (inb)
    (fd : Vec F S2x512x8192 .f32) (w : Vec F S128x8192 .f32) (r : Fin 128) (y : Fin 8192) :
    (otV off inb).view.write (Elt F) fd w Finset.univ (ix3 b ⟨128 * t + r.val, by have := r.isLt; omega⟩ y) = w (ix2 r y) := by
  subst h
  have hw := View.write_emb_of_mem (Val := Elt F) (v := (otV ![b.val, 128 * t, 0] inb).view) fd w
    (M := Finset.univ) (x := ix2 r y) (Finset.mem_univ _)
  rw [otV_emb b t ht] at hw
  exact hw

theorem otV_mem (b : Fin 2) (t : ℕ) (off : Fin 3 → ℕ) (h : off = ![b.val, 128 * t, 0]) (inb) (i : S2x512x8192.Idx) :
    i ∈ (otV off inb).view.set → (i 0).val = b.val ∧ (i 1).val / 128 = t := by
  subst h
  intro hi
  have hs : (otV ![b.val, 128 * t, 0] inb).view.set = (Rect.unit (s := S2x512x8192) ![b.val, 128 * t, 0] S1x128x8192.size inb).set := by
    show ((View.whole main_v1_0).slice _ |>.reshape _ _).set = _
    rw [View.set_reshape, View.set_slice_whole]
  rw [hs, Rect.mem_set_unit] at hi
  have h0 : b.val ≤ (i 0).val ∧ (i 0).val < b.val + 1 := hi 0
  have h1 : 128 * t ≤ (i 1).val ∧ (i 1).val < 128 * t + 128 := hi 1
  omega

/-- and the rest are as before. -/
theorem otV_write_out (b : Fin 2) (t : ℕ) (off : Fin 3 → ℕ) (h : off = ![b.val, 128 * t, 0]) (inb)
    (fd : Vec F S2x512x8192 .f32) (w : Vec F S128x8192 .f32) (i : S2x512x8192.Idx) (hi : ¬ ((i 0).val = b.val ∧ (i 1).val / 128 = t)) :
    (otV off inb).view.write (Elt F) fd w Finset.univ i = fd i :=
  View.write_of_not_mem (Val := Elt F) (v := (otV off inb).view) fd w Finset.univ fun hm => hi (otV_mem b t off h inb i hm)

/-! ## Loads and stores of tiles -/

section Tiles

variable {n : ℕ}

/-- A tile's rectangle in a buffer of two batch entries. -/
abbrev tileR (n : ℕ) (off : Fin 3 → ℕ) (inb : ∀ a, off a + (![1, 128, n] : Fin 3 → ℕ) a ≤ (⟨3, ![2, 512, n]⟩ : Shape).size a) : Rect (⟨3, ![2, 512, n]⟩ : Shape) :=
  Rect.unit (s := (⟨3, ![2, 512, n]⟩ : Shape)) off (![1, 128, n]) inb

theorem tile_emb (b : Fin 2) (t : ℕ) (ht : t < 4) (off : Fin 3 → ℕ) (h : off = ![b.val, 128 * t, 0]) (inb) (u : Fin 1) (r : Fin 128) (y : Fin n) :
    (tileR n off inb).emb (ix3 u r y) = ix3 b ⟨128 * t + r.val, by have := r.isLt; omega⟩ y := by
  subst h
  funext z
  refine Fin.ext ?_
  rw [Rect.emb_apply]
  have hx : u.val < 1 := u.isLt
  fin_cases z
  · show b.val + 1 * u.val = b.val; omega
  · show 128 * t + 1 * r.val = 128 * t + r.val; omega
  · show 0 + 1 * y.val = y.val; omega

theorem tile_mem (b : Fin 2) (t : ℕ) (off : Fin 3 → ℕ) (h : off = ![b.val, 128 * t, 0]) (inb)
    (i : (⟨3, ![2, 512, n]⟩ : Shape).Idx) (hi : i ∈ (tileR n off inb).set) : (i 0).val = b.val ∧ (i 1).val / 128 = t := by
  subst h
  rw [Rect.mem_set_unit] at hi
  have h0 : b.val ≤ (i 0).val ∧ (i 0).val < b.val + 1 := hi 0
  have h1 : 128 * t ≤ (i 1).val ∧ (i 1).val < 128 * t + 128 := hi 1
  omega

end Tiles

end Cert.Proof.K

end
-- ==== Proof.Tiles.lean ====
/-
  One tile of the kernel's arithmetic, as values: the tile of the operand that a product reads, the tile a product or
  a sum leaves, and what a buffer holds once the tiles before `t` are done.
-/
module

public import proofs.«01_k».proof.Proof.Slices

@[expose] public section

noncomputable section

namespace Cert.Proof.K

open Cert.KernelIdeal Cert.KernelIdeal.Gen
open Idealize.ShloMosaic Idealize.ShloMosaic.TcCoe Idealize.ShloMosaic.ValueIdx

variable {F : FTy → Type} [FloatOps F]

/-- A row of a tile, as a row of the buffer. -/
abbrev rowAt (t : ℕ) (ht : t < 4) (r : Fin 128) : Fin 512 := ⟨128 * t + r.val, by have := r.isLt; omega⟩

/-- Half `b` of `f` agrees with `spec` on the rows of the tiles before `t`. -/
def UpTo {α : Type} (b : Fin 2) (t : ℕ) (spec f : S2x512x8192.Idx → α) : Prop :=
  ∀ (x : Fin 512) (y : Fin 8192), x.val < 128 * t → f (ix3 b x y) = spec (ix3 b x y)

theorem UpTo.zero {α : Type} (b : Fin 2) (spec f : S2x512x8192.Idx → α) : UpTo b 0 spec f :=
  fun x _ h => absurd h (by omega)

theorem UpTo.four {α : Type} {b : Fin 2} {spec f : S2x512x8192.Idx → α} (h : UpTo b 4 spec f) : ∀ i ∈ hS b, f i = spec i := by
  intro i hi
  obtain ⟨x, y, rfl⟩ := hS_split ((mem_hS b i).mp hi)
  exact h x y (by have := x.isLt; omega)

/-- What `UpTo` needs of a step: the tile's rows as specified, the earlier rows kept. -/
theorem UpTo.step {α : Type} {b : Fin 2} {t : ℕ} (ht : t < 4) {spec f g : S2x512x8192.Idx → α} (hf : UpTo b t spec f)
    (hin : ∀ (r : Fin 128) (y : Fin 8192), g (ix3 b (rowAt t ht r) y) = spec (ix3 b (rowAt t ht r) y))
    (hout : ∀ (x : Fin 512) (y : Fin 8192), x.val / 128 ≠ t → g (ix3 b x y) = f (ix3 b x y)) : UpTo b (t + 1) spec g := by
  intro x y hx
  by_cases h : x.val / 128 = t
  · obtain ⟨r, hr⟩ := row_split ht h
    rw [hr]
    exact hin r y
  · rw [hout x y h]
    exact hf x y (by omega)

/-- The tile rectangle, in the sum buffer and in the product buffer. -/
abbrev tR (off : Fin 3 → ℕ) (inb : ∀ a, off a + S1x128x8192.size a ≤ S2x512x8192.size a) : Rect S2x512x8192 :=
  Rect.unit (s := S2x512x8192) off S1x128x8192.size inb
abbrev tO (off : Fin 3 → ℕ) (inb : ∀ a, off a + S1x128x1024.size a ≤ S2x512x1024.size a) : Rect S2x512x1024 :=
  Rect.unit (s := S2x512x1024) off S1x128x1024.size inb

theorem tile_sub_hS (b : Fin 2) (t : ℕ) (off : Fin 3 → ℕ) (h : off = ![b.val, 128 * t, 0]) (inb) : (tR off inb).set ⊆ hS b :=
  fun i hi => (mem_hS b i).mpr (tile_mem (n := 8192) b t off h inb i hi).1
theorem tile_sub_hO (b : Fin 2) (t : ℕ) (off : Fin 3 → ℕ) (h : off = ![b.val, 128 * t, 0]) (inb) : (tO off inb).set ⊆ hO b :=
  fun i hi => (mem_hO b i).mpr (tile_mem (n := 1024) b t off h inb i hi).1

/-- A write of one tile into the sum buffer. -/
theorem acc_write_in (b : Fin 2) (t : ℕ) (ht : t < 4) (off : Fin 3 → ℕ) (h : off = ![b.val, 128 * t, 0]) (inb)
    (f : Vec F S2x512x8192 .bf16) (w : Vec F S1x128x8192 .bf16) (r : Fin 128) (y : Fin 8192) :
    ((Memref.whole cc0_scratch1).access (tR off inb)).write (Elt F) f w Finset.univ (ix3 b (rowAt t ht r) y) = w (ix3 0 r y) := by
  have hw := View.write_emb_of_mem (Val := Elt F) (v := (Memref.whole cc0_scratch1).access (tR off inb)) f w (M := Finset.univ) (x := ix3 0 r y) (Finset.mem_univ _)
  rw [show ((Memref.whole cc0_scratch1).access (tR off inb)).emb (ix3 0 r y) = ix3 b (rowAt t ht r) y from tile_emb (n := 8192) b t ht off h inb 0 r y] at hw
  exact hw
theorem acc_write_out (b : Fin 2) (t : ℕ) (off : Fin 3 → ℕ) (h : off = ![b.val, 128 * t, 0]) (inb)
    (f : Vec F S2x512x8192 .bf16) (w : Vec F S1x128x8192 .bf16) (x : Fin 512) (y : Fin 8192) (hx : x.val / 128 ≠ t) :
    ((Memref.whole cc0_scratch1).access (tR off inb)).write (Elt F) f w Finset.univ (ix3 b x y) = f (ix3 b x y) :=
  View.write_of_not_mem (Val := Elt F) (v := (Memref.whole cc0_scratch1).access (tR off inb)) f w Finset.univ fun hm =>
    hx (tile_mem (n := 8192) b t off h inb (ix3 b x y) (by rw [← View.set_slice_whole cc0_scratch1]; exact hm)).2
/-- A write of one tile into the product buffer. -/
theorem vb_write_in (b : Fin 2) (t : ℕ) (ht : t < 4) (off : Fin 3 → ℕ) (h : off = ![b.val, 128 * t, 0]) (inb)
    (f : Vec F S2x512x8192 .bf16) (w : Vec F S1x128x8192 .bf16) (r : Fin 128) (y : Fin 8192) :
    ((Memref.whole cc0_scratch2).access (tR off inb)).write (Elt F) f w Finset.univ (ix3 b (rowAt t ht r) y) = w (ix3 0 r y) := by
  have hw := View.write_emb_of_mem (Val := Elt F) (v := (Memref.whole cc0_scratch2).access (tR off inb)) f w (M := Finset.univ) (x := ix3 0 r y) (Finset.mem_univ _)
  rw [show ((Memref.whole cc0_scratch2).access (tR off inb)).emb (ix3 0 r y) = ix3 b (rowAt t ht r) y from tile_emb (n := 8192) b t ht off h inb 0 r y] at hw
  exact hw
theorem vb_write_out (b : Fin 2) (t : ℕ) (off : Fin 3 → ℕ) (h : off = ![b.val, 128 * t, 0]) (inb)
    (f : Vec F S2x512x8192 .bf16) (w : Vec F S1x128x8192 .bf16) (x : Fin 512) (y : Fin 8192) (hx : x.val / 128 ≠ t) :
    ((Memref.whole cc0_scratch2).access (tR off inb)).write (Elt F) f w Finset.univ (ix3 b x y) = f (ix3 b x y) :=
  View.write_of_not_mem (Val := Elt F) (v := (Memref.whole cc0_scratch2).access (tR off inb)) f w Finset.univ fun hm =>
    hx (tile_mem (n := 8192) b t off h inb (ix3 b x y) (by rw [← View.set_slice_whole cc0_scratch2]; exact hm)).2

theorem vb_write_other (b b' : Fin 2) (hb : b' ≠ b) (t : ℕ) (off : Fin 3 → ℕ) (h : off = ![b.val, 128 * t, 0]) (inb)
    (f : Vec F S2x512x8192 .bf16) (w : Vec F S1x128x8192 .bf16) (x : Fin 512) (y : Fin 8192) :
    ((Memref.whole cc0_scratch2).access (tR off inb)).write (Elt F) f w Finset.univ (ix3 b' x y) = f (ix3 b' x y) :=
  View.write_of_not_mem (Val := Elt F) (v := (Memref.whole cc0_scratch2).access (tR off inb)) f w Finset.univ fun hm =>
    hb (Fin.ext (tile_mem (n := 8192) b t off h inb (ix3 b' x y) (by rw [← View.set_slice_whole cc0_scratch2]; exact hm)).1)

/-- The tile of the operand that the product reads. -/
theorem ov_read (b : Fin 2) (t : ℕ) (ht : t < 4) (off : Fin 3 → ℕ) (h : off = ![b.val, 128 * t, 0]) (inb)
    (f : Vec F S2x512x1024 .f32) (r : Fin 128) (y : Fin 8192) :
    (Memref.whole cc0_scratch3).view.readAt (Elt F) (tO off inb).toLoadRect f = tileOf f (ix3 b (rowAt t ht r) y) := by
  funext x
  obtain ⟨u, v, w, rfl⟩ : ∃ (u : Fin 1) (v : Fin 128) (w : Fin 1024), x = ix3 u v w := ⟨x 0, x 1, x 2, eq_ix3 x⟩
  have he : ((Memref.whole cc0_scratch3).view.slice (tO off inb)).emb (ix3 u v w) = ix3 b (rowAt t ht v) w :=
    tile_emb (n := 1024) b t ht off h inb u v w
  show f (((Memref.whole cc0_scratch3).view.slice (tO off inb)).emb (ix3 u v w)) = f _
  rw [he]
  refine congrArg f (funext fun z => Fin.ext ?_)
  have hr := r.isLt
  fin_cases z
  · rfl
  · show 128 * t + v.val = 128 * ((128 * t + r.val) / 128) + v.val
    omega
  · rfl

/-- A tile of the product buffer, loaded. -/
theorem vb_read (b : Fin 2) (t : ℕ) (ht : t < 4) (off : Fin 3 → ℕ) (h : off = ![b.val, 128 * t, 0]) (inb)
    (f : Vec F S2x512x8192 .bf16) (u : Fin 1) (r : Fin 128) (y : Fin 8192) :
    (Memref.whole cc0_scratch2).view.readAt (Elt F) (tR off inb).toLoadRect f (ix3 u r y) = f (ix3 b (rowAt t ht r) y) := by
  show f (((Memref.whole cc0_scratch2).view.slice (tR off inb)).emb (ix3 u r y)) = f _
  rw [show ((Memref.whole cc0_scratch2).view.slice (tR off inb)).emb (ix3 u r y) = ix3 b (rowAt t ht r) y from tile_emb (n := 8192) b t ht off h inb u r y]

theorem zero2 : (![0, 0] : Fin 2 → ℕ) = fun _ => 0 := funext fun a => by fin_cases a <;> rfl

theorem w_read (inb) (f : Vec F S1024x8192 .bf16) :
    (Memref.whole cc0_scratch0).view.readAt (Elt F) (Rect.unit (s := S1024x8192) ![0, 0] S1024x8192.size inb).toLoadRect f = f :=
  Memref.readAt_unit_zero (Elt F) cc0_scratch0 zero2 _ f
theorem va_read (inb) (f : Vec F S128x8192 .bf16) :
    (Memref.whole cc0_scratch4).view.readAt (Elt F) (Rect.unit (s := S128x8192) ![0, 0] S128x8192.size inb).toLoadRect f = f :=
  Memref.readAt_unit_zero (Elt F) cc0_scratch4 zero2 _ f
theorem vf_write (inb) (f w : Vec F S128x8192 .f32) :
    ((Memref.whole cc0_scratch5).access (Rect.unit (s := S128x8192) ![0, 0] S128x8192.size inb)).write (Elt F) f w Finset.univ = w :=
  Memref.write_access_unit_zero_univ (Elt F) cc0_scratch5 zero2 _ f w

/-! ## The four products and the four sums have one body each -/

theorem pay2_eq : (k0_pay2 (F := F)) = k0_pay1 := rfl
theorem pay7_eq : (k0_pay7 (F := F)) = k0_pay1 := rfl
theorem pay8_eq : (k0_pay8 (F := F)) = k0_pay1 := rfl
theorem pay5_eq : (k0_pay5 (F := F)) = k0_pay3 := rfl
theorem pay6_eq : (k0_pay6 (F := F)) = k0_pay4 := rfl

variable (m : (ℓ : Loc nD τ sig) → Buf (Elt F) ℓ)

/-- A product's tile, at an element, is the specified one. -/
theorem prod_at (c : Dev nD) (j : Fin 8) (b : Fin 2) (t : ℕ) (ht : t < 4) (off : Fin 3 → ℕ) (h : off = ![b.val, 128 * t, 0]) (inb)
    (r : Fin 128) (y : Fin 8192) :
    k0_pay1 ((Memref.whole cc0_scratch3).view.readAt (Elt F) (tO off inb).toLoadRect (ovF m c j)) (wIn m c) (ix3 0 r y)
      = vbF m c j (ix3 b (rowAt t ht r) y) := by
  rw [ov_read b t ht off h inb (ovF m c j) r y]
  unfold vbF
  refine congrArg (k0_pay1 _ _) (funext fun z => Fin.ext ?_)
  have hr := r.isLt
  fin_cases z
  · rfl
  · show r.val = (128 * t + r.val) % 128
    omega
  · rfl

/-- A sum's tile, at an element. -/
theorem sum_at (va : Vec F S128x8192 .bf16) (vb : Vec F S1x128x8192 .bf16) (r : Fin 128) (y : Fin 8192) :
    k0_pay3 va vb (ix3 0 r y) = FloatOps.addf (va (ix2 r y)) (vb (ix3 0 r y)) := by
  unfold k0_pay3
  rw [shapeCast_ab_1ab_apply]
  show FloatOps.addf (va (ix2 r y)) _ = _
  rw [shapeCast_1ab_ab_apply]
/-- And the last hop's, in the wider format. -/
theorem sum32_at (va : Vec F S128x8192 .bf16) (vb : Vec F S1x128x8192 .bf16) (r : Fin 128) (y : Fin 8192) :
    k0_pay4 va vb (ix2 r y) = FloatOps.addf (FloatOps.extf .f32 bitsLt_bf16_f32 (va (ix2 r y))) (FloatOps.extf .f32 bitsLt_bf16_f32 (vb (ix3 0 r y))) := by
  unfold k0_pay4
  rw [shapeCast_self]
  show FloatOps.addf (FloatOps.extf .f32 bitsLt_bf16_f32 (va (ix2 r y))) (FloatOps.extf .f32 bitsLt_bf16_f32 (shapeCast S128x8192 vb _ (ix2 r y))) = _
  rw [shapeCast_1ab_ab_apply]

end Cert.Proof.K

end
-- ==== Proof.Pieces.lean ====
/-
  One rule for each thing the kernel does: a tile of a product, a fetch of an operand chunk and its wait, a transfer to
  the neighbour, the waits for a landing and for a read-out, a tile of a sum, a tile of the result.
-/
module

public import proofs.«01_k».proof.Proof.Tiles

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]

local notation "𝕄" => MT nD τ sig Unit (Elt F) ℕ UU ℕ

/-- The counters of the local transfers. -/
abbrev EC : UEmb Counters (MT nD τ sig Unit (Elt F) ℕ UU ℕ) := countersEmb

variable (m : (ℓ : Loc nD τ sig) → Buf (Elt F) ℓ)

/-! ## The ring's records -/

/-- The ring's cells, listed: device, landing or read-out, transfer. -/
abbrev RIx : Type := Dev nD × (Bool × Fin 14)
/-- The semaphore of a listed cell; -/
def rSem (x : Bool × Fin 14) : DmaSem sig := if x.1 then recvSem x.2 else sendSem x.2
/-- the cell. -/
abbrev rCell (x : RIx) : GSem nD τ sig := ((x.1 : Thread nD τ), .dma (rSem x.2))

/-- Every cell's invariant and that it has reached its round: what every device may consult. -/
def records (K : RIx → ℕ) : sProp 𝕄 :=
  iprop((bigSep Finset.univ fun x : RIx => cellInv ER (ringRd m) (K x) (rCell x))
    ∗ bigSep Finset.univ fun x : RIx => reached ER (rCell x) 0)

instance records_persistent (K : RIx → ℕ) : BI.Persistent (records m K) := by unfold records; infer_instance

theorem rec_send (K : RIx → ℕ) (c : Dev nD) (k : Fin 14) :
    records m K ⊢ iprop(cellInv ER (ringRd m) (K (c, false, k)) (sendCell c k) ∗ reached ER (sendCell c k) 0) :=
  BI.sep_mono (bigSep_elim (Φ := fun x : RIx => cellInv ER (ringRd m) (K x) (rCell x)) (Finset.mem_univ (c, false, k)))
    (bigSep_elim (Φ := fun x : RIx => reached ER (rCell x) 0) (Finset.mem_univ (c, false, k)))
theorem rec_recv (K : RIx → ℕ) (c : Dev nD) (k : Fin 14) :
    records m K ⊢ iprop(cellInv ER (ringRd m) (K (c, true, k)) (recvCell c k) ∗ reached ER (recvCell c k) 0) :=
  BI.sep_mono (bigSep_elim (Φ := fun x : RIx => cellInv ER (ringRd m) (K x) (rCell x)) (Finset.mem_univ (c, true, k)))
    (bigSep_elim (Φ := fun x : RIx => reached ER (rCell x) 0) (Finset.mem_univ (c, true, k)))

/-- What device `c` owes, at some record of its waits. -/
def owesE (c : Dev nD) (n : ℕ) : sProp 𝕄 := iprop(∃ W : Waits sig Unit, owes (c : Thread nD τ) (owedFrom c n) W)

/-! ## Buffers -/

def oPts (c : Dev nD) (q : PosShare TreeShare) : sProp 𝕄 := ((c : Thread nD τ).loc main_arg0) ↦{q} (oIn m c)
def wPts (c : Dev nD) : sProp 𝕄 := ((c : Thread nD τ).loc cc0_scratch0) ↦{fullShare} (wIn m c)
def wSrc (c : Dev nD) : sProp 𝕄 := ((c : Thread nD τ).loc main_arg1) ↦{fullShare} (wIn m c)
def wAny (c : Dev nD) : sProp 𝕄 := iprop(∃ f, ((c : Thread nD τ).loc cc0_scratch0) ↦{fullShare} f)
/-- Half `b` of the product buffer. -/
def vbPts (c : Dev nD) (b : Fin 2) (f : Vec F S2x512x8192 .bf16) : sProp 𝕄 :=
  ((c : Thread nD τ).loc cc0_scratch2) ↦[hS b]{fullShare} f
def vaPts (c : Dev nD) (f : Vec F S128x8192 .bf16) : sProp 𝕄 := ((c : Thread nD τ).loc cc0_scratch4) ↦{fullShare} f
def vfPts (c : Dev nD) (f : Vec F S128x8192 .f32) : sProp 𝕄 := ((c : Thread nD τ).loc cc0_scratch5) ↦{fullShare} f
def outPts (c : Dev nD) (f : Vec F S2x512x8192 .f32) : sProp 𝕄 := ((c : Thread nD τ).loc main_v1_0) ↦{fullShare} f

abbrev vaSem : DmaSem sig := cc0_scratch9.sem
abbrev stSem : DmaSem sig := cc0_scratch10.sem

theorem setOn_whole {κ : Kind} (b : Ref sig κ) (S : Finset b.ty.Idx) : (Memref.whole b : Memref sig κ _ _ _).view.setOn S = S := Finset.map_refl

/-! ## A tile of a product -/

theorem wp_prod_vb (c : Dev nD) (j : Fin 8) (b : Fin 2) (t : ℕ) (ht : t < 4)
    (off : Fin 3 → ℕ) (h : off = ![b.val, 128 * t, 0]) (inb : ∀ a, off a + S1x128x1024.size a ≤ S2x512x1024.size a)
    (off' : Fin 3 → ℕ) (h' : off' = ![b.val, 128 * t, 0]) (inb' : ∀ a, off' a + S1x128x8192.size a ≤ S2x512x8192.size a)
    (inbw : ∀ a, (![0, 0] : Fin 2 → ℕ) a + S1024x8192.size a ≤ S1024x8192.size a)
    {h1 : (Memref.whole cc0_scratch3 : Memref sig .tc .vmem S2x512x1024 .f32).view.LoadsAt (tO off inb).toLoadRect}
    {h2 : (Memref.whole cc0_scratch0 : Memref sig .tc .vmem S1024x8192 .bf16).view.LoadsAt (Rect.unit (s := S1024x8192) ![0, 0] S1024x8192.size inbw).toLoadRect}
    {h3 : (Memref.whole cc0_scratch2 : Memref sig .tc .vmem S2x512x8192 .bf16).view.LoadsAt (tR off' inb').toLoadRect}
    {h4 : ((Memref.whole cc0_scratch2 : Memref sig .tc .vmem S2x512x8192 .bf16).access (tR off' inb')).Stores Finset.univ}
    {h5 : (Finset.univ : Finset (tR off' inb').shape.Idx) = Finset.univ ∨ ∀ a, (tR off' inb').stride a = 1}
    {f : Vec F S2x512x8192 .bf16} (hf : UpTo b t (vbF m c j) f)
    {α : Type} {Q : α → sProp 𝕄} {k : PUnit → Prog (TpuEff nD τ sig (Elt F) Λ₀ .tc) α} :
    iprop(ovPts c b (ovF m c j) ∗ wPts m c ∗ vbPts c b f)
      ⊢ iprop((∀ g, ⌜UpTo b (t + 1) (vbF m c j) g⌝ -∗ ovPts c b (ovF m c j) ∗ wPts m c ∗ vbPts c b g
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_scratch3) (tO off inb).toLoadRect h1) fun v1 =>
                .op (.load (Memref.whole cc0_scratch0) (Rect.unit (s := S1024x8192) ![0, 0] S1024x8192.size inbw).toLoadRect h2) fun v2 =>
                .op (.load (Memref.whole cc0_scratch2) (tR off' inb').toLoadRect h3) fun _ =>
                .op (.store (Memref.whole cc0_scratch2) (tR off' inb') (k0_pay1 v1 v2) Finset.univ h4 h5) k) Q) := by
  unfold ovPts wPts vbPts
  iintro ⟨Ho, Hw, Hv⟩ Hk
  iapply (wp_load 𝒱₀ (c : Thread nD τ) none Set.univ (m := Memref.whole cc0_scratch3) (by rw [setOn_whole]; exact tile_sub_hO b t off h inb)) $$ Ho; iintro Ho
  iapply (wp_load 𝒱₀ (c : Thread nD τ) none Set.univ (m := Memref.whole cc0_scratch0) (Finset.subset_univ _)) $$ Hw; iintro Hw
  iapply (wp_load 𝒱₀ (c : Thread nD τ) none Set.univ (m := Memref.whole cc0_scratch2) (by rw [setOn_whole]; exact tile_sub_hS b t off' h' inb')) $$ Hv; iintro Hv
  rw [w_read]
  iapply (wp_store 𝒱₀ (c : Thread nD τ) none Set.univ (m := Memref.whole cc0_scratch2) (r := tR off' inb') (Mk := Finset.univ)
    (by rw [View.setOn_univ]; exact (Finset.subset_of_eq (View.set_slice_whole cc0_scratch2 _)).trans (tile_sub_hS b t off' h' inb'))) $$ Hv; iintro Hv
  iapply Hk $$ [] [Ho Hw Hv]
  rotate_left
  · isplitl [Ho]; · iexact Ho
    isplitl [Hw]; · iexact Hw
    iexact Hv
  · ipureintro
    exact hf.step ht (fun r y => (vb_write_in b t ht off' h' inb' f _ r y).trans (prod_at m c j b t ht off h inb r y))
      fun x y hx => vb_write_out b t off' h' inb' f _ x y hx

theorem wp_prod_acc (c : Dev nD) (j : Fin 8) (b : Fin 2) (t : ℕ) (ht : t < 4)
    (off : Fin 3 → ℕ) (h : off = ![b.val, 128 * t, 0]) (inb : ∀ a, off a + S1x128x1024.size a ≤ S2x512x1024.size a)
    (off' : Fin 3 → ℕ) (h' : off' = ![b.val, 128 * t, 0]) (inb' : ∀ a, off' a + S1x128x8192.size a ≤ S2x512x8192.size a)
    (inbw : ∀ a, (![0, 0] : Fin 2 → ℕ) a + S1024x8192.size a ≤ S1024x8192.size a)
    {h1 : (Memref.whole cc0_scratch3 : Memref sig .tc .vmem S2x512x1024 .f32).view.LoadsAt (tO off inb).toLoadRect}
    {h2 : (Memref.whole cc0_scratch0 : Memref sig .tc .vmem S1024x8192 .bf16).view.LoadsAt (Rect.unit (s := S1024x8192) ![0, 0] S1024x8192.size inbw).toLoadRect}
    {h3 : (Memref.whole cc0_scratch1 : Memref sig .tc .vmem S2x512x8192 .bf16).view.LoadsAt (tR off' inb').toLoadRect}
    {h4 : ((Memref.whole cc0_scratch1 : Memref sig .tc .vmem S2x512x8192 .bf16).access (tR off' inb')).Stores Finset.univ}
    {h5 : (Finset.univ : Finset (tR off' inb').shape.Idx) = Finset.univ ∨ ∀ a, (tR off' inb').stride a = 1}
    {f : Vec F S2x512x8192 .bf16} (hf : UpTo b t (vbF m c j) f)
    {α : Type} {Q : α → sProp 𝕄} {k : PUnit → Prog (TpuEff nD τ sig (Elt F) Λ₀ .tc) α} :
    iprop(ovPts c b (ovF m c j) ∗ wPts m c ∗ accPts c b f)
      ⊢ iprop((∀ g, ⌜UpTo b (t + 1) (vbF m c j) g⌝ -∗ ovPts c b (ovF m c j) ∗ wPts m c ∗ accPts c b g
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_scratch3) (tO off inb).toLoadRect h1) fun v1 =>
                .op (.load (Memref.whole cc0_scratch0) (Rect.unit (s := S1024x8192) ![0, 0] S1024x8192.size inbw).toLoadRect h2) fun v2 =>
                .op (.load (Memref.whole cc0_scratch1) (tR off' inb').toLoadRect h3) fun _ =>
                .op (.store (Memref.whole cc0_scratch1) (tR off' inb') (k0_pay1 v1 v2) Finset.univ h4 h5) k) Q) := by
  unfold ovPts wPts accPts
  iintro ⟨Ho, Hw, Hv⟩ Hk
  iapply (wp_load 𝒱₀ (c : Thread nD τ) none Set.univ (m := Memref.whole cc0_scratch3) (by rw [setOn_whole]; exact tile_sub_hO b t off h inb)) $$ Ho; iintro Ho
  iapply (wp_load 𝒱₀ (c : Thread nD τ) none Set.univ (m := Memref.whole cc0_scratch0) (Finset.subset_univ _)) $$ Hw; iintro Hw
  iapply (wp_load 𝒱₀ (c : Thread nD τ) none Set.univ (m := Memref.whole cc0_scratch1) (by rw [setOn_whole]; exact tile_sub_hS b t off' h' inb')) $$ Hv; iintro Hv
  rw [w_read]
  iapply (wp_store 𝒱₀ (c : Thread nD τ) none Set.univ (m := Memref.whole cc0_scratch1) (r := tR off' inb') (Mk := Finset.univ)
    (by rw [View.setOn_univ]; exact (Finset.subset_of_eq (View.set_slice_whole cc0_scratch1 _)).trans (tile_sub_hS b t off' h' inb'))) $$ Hv; iintro Hv
  iapply Hk $$ [] [Ho Hw Hv]
  rotate_left
  · isplitl [Ho]; · iexact Ho
    isplitl [Hw]; · iexact Hw
    iexact Hv
  · ipureintro
    exact hf.step ht (fun r y => (acc_write_in b t ht off' h' inb' f _ r y).trans (prod_at m c j b t ht off h inb r y))
      fun x y hx => acc_write_out b t off' h' inb' f _ x y hx

/-! ## Fetching an operand chunk -/

/-- What one operand fetch counts. -/
def NO : ℕ := (ovV ![0, 0, 0] inb_S2x512x1024_S1x512x1024_0_0_0).view.dmaCredit
theorem NO_pos : 0 < NO := View.dmaCredit_pos _ (by decide)
def NW : ℕ := (Memref.whole cc0_scratch0 : Memref sig .tc .vmem S1024x8192 .bf16).view.dmaCredit
theorem NW_pos : 0 < NW := View.dmaCredit_pos _ (by decide)
def NV : ℕ := (Memref.whole cc0_scratch4 : Memref sig .tc .vmem S128x8192 .bf16).view.dmaCredit
theorem NV_pos : 0 < NV := View.dmaCredit_pos _ (by decide)
def NR : ℕ := (otV ![0, 0, 0] (by decide)).view.dmaCredit
theorem NR_pos : 0 < NR := View.dmaCredit_pos _ (by decide)

/-- Chunk `j` on its way into half `b`, from one share of `O`. -/
def fetching (c : Dev nD) (b : Fin 2) (j : Fin 8) (q : PosShare TreeShare) : sProp 𝕄 :=
  iprop(∃ S : Finset S2x8x512x1024.Idx,
    Flight EC (c : Thread nD τ) (.dma (oSem b)) () NO iprop(ovPts c b (ovF m c j) ∗ (((c : Thread nD τ).loc main_arg0) ↦[S]{q} (oIn m c)))
      ∗ (((c : Thread nD τ).loc main_arg0) ↦[Finset.univ \ S]{q} (oIn m c)))

theorem wp_fetch (c : Dev nD) (b : Fin 2) (j : Fin 8) (q : PosShare TreeShare)
    (off : Fin 4 → ℕ) (h : off = ![b.val, j.val, 0, 0]) (inb)
    (off' : Fin 3 → ℕ) (h' : off' = ![b.val, 0, 0]) (inb')
    (s : DmaSem sig) (hs : s = oSem b)
    {hsrc : (inV off inb).view.WordExact} {hdst : (ovV off' inb').view.WordExact}
    {hsem : DmaTarget.Typed (nD := nD) (p := (Proc.tc : Proc τ)) .hbm (.dma s) (.here (ovV off' inb'))}
    {α : Type} {Q : α → sProp 𝕄} {k : PUnit → Prog (TpuEff nD τ sig (Elt F) Λ₀ .tc) α} :
    iprop(oPts m c q ∗ (∃ f, ovPts c b f) ∗ semVal ((c : Thread nD τ), .dma (oSem b)) 0)
      ⊢ iprop((fetching m c b j q -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (inV off inb) (.here (ovV off' inb')) (.dma s) hsrc hdst hsem) k) Q) := by
  subst hs
  unfold oPts ovPts
  iintro ⟨Ho, ⟨%f, Hv⟩, Hs⟩ Hk
  ihave Ho := (pointsTo_split_subset (Finset.subset_univ (inV off inb).view.set)).1 $$ Ho
  icases Ho with ⟨Ho, Hrest⟩
  iapply (Transfers.wp_dmaLocal EC 𝒱₀ (c : Thread nD τ) none () NO rfl NO_pos (src := inV off inb) (dst := ovV off' inb') (Sd := hO b) (Finset.subset_of_eq (ovV_set b off' h' inb'))) $$ [Ho Hv Hs]
  · isplitl [Ho]; · iexact Ho
    isplitl [Hv]; · iexact Hv
    iexact Hs
  iintro HF
  iapply Hk
  unfold fetching ovPts
  iexists (inV off inb).view.set
  isplitl [HF]
  · iapply (Transfers.Flight_mono EC (c : Thread nD τ) (BI.sep_mono (Entails.of_eq (pointsTo_congr fun i hi => fetch_eq b j off h inb off' h' inb' (oIn m c) f i hi)) (Entails.refl _))) $$ HF
  · iexact Hrest

theorem wp_fetched (c : Dev nD) (b : Fin 2) (j : Fin 8) (q : PosShare TreeShare) (n : ℕ)
    {off : Fin 4 → ℕ} {inb} {off' : Fin 3 → ℕ} {inb'} (s : DmaSem sig) (hs : s = oSem b)
    {hsrc : (inV off inb).view.WordExact} {hdst : (ovV off' inb').view.WordExact}
    {α : Type} {Q : α → sProp 𝕄} {k : PUnit → Prog (TpuEff nD τ sig (Elt F) Λ₀ .tc) α} :
    iprop(fetching m c b j q ∗ owesE c n ∗ levAts L lv)
      ⊢ iprop((oPts m c q ∗ ovPts c b (ovF m c j) ∗ semVal ((c : Thread nD τ), .dma (oSem b)) 0 ∗ owesE c n
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 s (inV off inb) (ovV off' inb') hsrc hdst) k) Q) := by
  subst hs
  unfold fetching owesE
  iintro ⟨⟨%S, HF, Hrest⟩, ⟨%W, HO⟩, #Hlev⟩ Hk
  iapply (Transfers.wp_waitLocalO EC 𝒱₀ (c : Thread nD τ) none () (N := NO) (srcw := inV off inb) (dstw := ovV off' inb') (hsrc := hsrc) (hdst := hdst) rfl) $$ [HF HO]
  · isplitl [HF]; · iexact HF
    isplitl [HO]; · iexact HO
    iapply (mayWait_local c (oSem b) (by rw [oSem_val]; omega) n); iexact Hlev
  iintro ⟨⟨Hov, Ho⟩, Hs, HO⟩
  iapply Hk
  isplitl [Ho Hrest]
  · unfold oPts
    iapply (pointsTo_split_subset (Finset.subset_univ S)).2
    isplitl [Ho]; · iexact Ho
    iexact Hrest
  isplitl [Hov]; · iexact Hov
  isplitl [Hs]; · iexact Hs
  iexists _; iexact HO

/-- `W` on its way into its buffer. -/
def fetchingW (c : Dev nD) : sProp 𝕄 := Flight EC (c : Thread nD τ) (.dma vaSem) () NW iprop(wPts m c ∗ wSrc m c)

theorem wSrc_back (c : Dev nD) :
    ((((c : Thread nD τ).loc main_arg1) ↦[(Memref.whole main_arg1 : Memref sig .tc .hbm S1024x8192 .bf16).view.set]{fullShare} (wIn m c) : sProp 𝕄)) ⊢ wSrc m c := by
  unfold wSrc
  rw [show (Memref.whole main_arg1 : Memref sig .tc .hbm S1024x8192 .bf16).view.set = Finset.univ from View.set_whole main_arg1]

theorem wp_fetchW (c : Dev nD)
    {hsrc : (Memref.whole main_arg1 : Memref sig .tc .hbm S1024x8192 .bf16).view.WordExact} {hdst : (Memref.whole cc0_scratch0 : Memref sig .tc .vmem S1024x8192 .bf16).view.WordExact}
    {hsem : DmaTarget.Typed (nD := nD) (p := (Proc.tc : Proc τ)) .hbm (.dma vaSem) (.here (Memref.whole cc0_scratch0 : Memref sig .tc .vmem S1024x8192 .bf16))}
    {α : Type} {Q : α → sProp 𝕄} {k : PUnit → Prog (TpuEff nD τ sig (Elt F) Λ₀ .tc) α} :
    iprop(wSrc m c ∗ wAny c ∗ semVal ((c : Thread nD τ), .dma vaSem) 0)
      ⊢ iprop((fetchingW m c -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole main_arg1) (.here (Memref.whole cc0_scratch0)) (.dma vaSem) hsrc hdst hsem) k) Q) := by
  unfold wSrc wAny
  iintro ⟨Ho, ⟨%f, Hv⟩, Hs⟩ Hk
  iapply (Transfers.wp_dmaLocal EC 𝒱₀ (c : Thread nD τ) none () NW rfl NW_pos (Sd := Finset.univ) (fs := wIn m c)
    (src := (Memref.whole main_arg1 : Memref sig .tc .hbm S1024x8192 .bf16)) (dst := (Memref.whole cc0_scratch0 : Memref sig .tc .vmem S1024x8192 .bf16)) (Finset.subset_univ _)) $$ [Ho Hv Hs]
  · isplitl [Ho]; · rw [View.set_whole]; iexact Ho
    isplitl [Hv]; · iexact Hv
    iexact Hs
  iintro HF
  iapply Hk
  unfold fetchingW wPts wSrc
  iapply (Transfers.Flight_mono EC (c : Thread nD τ) (BI.sep_mono (Entails.of_eq (pointsTo_congr fun i _ => congrFun (View.write_whole_univ _ _ _) i)) (wSrc_back m c))) $$ HF

theorem wp_fetchedW (c : Dev nD) (n : ℕ)
    {hsrc : (Memref.whole main_arg1 : Memref sig .tc .hbm S1024x8192 .bf16).view.WordExact} {hdst : (Memref.whole cc0_scratch0 : Memref sig .tc .vmem S1024x8192 .bf16).view.WordExact}
    {α : Type} {Q : α → sProp 𝕄} {k : PUnit → Prog (TpuEff nD τ sig (Elt F) Λ₀ .tc) α} :
    iprop(fetchingW m c ∗ owesE c n ∗ levAts L lv)
      ⊢ iprop((wSrc m c ∗ wPts m c ∗ semVal ((c : Thread nD τ), .dma vaSem) 0 ∗ owesE c n
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 vaSem (Memref.whole main_arg1) (Memref.whole cc0_scratch0) hsrc hdst) k) Q) := by
  unfold fetchingW owesE
  iintro ⟨HF, ⟨%W, HO⟩, #Hlev⟩ Hk
  iapply (Transfers.wp_waitLocalO EC 𝒱₀ (c : Thread nD τ) none () (N := NW) (srcw := (Memref.whole main_arg1 : Memref sig .tc .hbm S1024x8192 .bf16)) (dstw := (Memref.whole cc0_scratch0 : Memref sig .tc .vmem S1024x8192 .bf16)) (hsrc := hsrc) (hdst := hdst) rfl) $$ [HF HO]
  · isplitl [HF]; · iexact HF
    isplitl [HO]; · iexact HO
    iapply (mayWait_local c vaSem (by decide) n); iexact Hlev
  iintro ⟨⟨Hw, Hs⟩, Hv, HO⟩
  iapply Hk
  isplitl [Hs]; · iexact Hs
  isplitl [Hw]; · iexact Hw
  isplitl [Hv]; · iexact Hv
  iexists _; iexact HO

/-! ## The ring's transfers -/

/-- What lands in the neighbour's slot `k` is what its landing promises. -/
theorem land_pay (c : Dev nD) (k : Fin 14) (off : Fin 4 → ℕ) (h : off = ![k.val / 2, k.val % 2, 0, 0]) (inb)
    (off' : Fin 3 → ℕ) (h' : off' = ![k.val % 2, 0, 0]) (inb') (fd : Vec F S7x2x512x8192 .bf16) :
    ((((nxt c : Dev nD) : Thread nD τ).loc main_v1_1) ↦[(slotV off inb).view.set]{fullShare}
        ((slotV off inb).view.write (Elt F) fd ((acV off' inb').view.read (Elt F) (accF m c (hopOf k).val)) Finset.univ) : sProp 𝕄)
      ⊢ recvPay m (nxt c) k := by
  rw [slotV_set k off h inb]
  unfold recvPay slotPts
  refine Entails.of_eq (pointsTo_congr fun i hi => (land_eq k off h inb off' h' inb' (accF m c (hopOf k).val) fd i hi).trans ?_)
  unfold recvF
  dsimp only
  rw [prv_nxt, ((mem_slotS k i).mp hi).1]
  rfl

/-- Transfer `k`, started: pays the neighbour's landing duty and the sender's own read-out duty. -/
theorem wp_send (K : RIx → ℕ) (c n : Dev nD) (hn : n = nxt c) (k : Fin 14)
    (off : Fin 4 → ℕ) (h : off = ![k.val / 2, k.val % 2, 0, 0]) (inb)
    (off' : Fin 3 → ℕ) (h' : off' = ![k.val % 2, 0, 0]) (inb')
    (sS sR : DmaSem sig) (hS : sS = sendSem k) (hR : sR = recvSem k)
    {hsc : (slotV off inb : Memref sig (Dev.tc n : Thread nD τ).2.kind .hbm S512x8192 .bf16).view.ref.isScScratch = false}
    {hsrc : (acV off' inb').view.WordExact} {hdst : (slotV off inb).view.WordExact}
    {hsem : DmaTarget.Typed .vmem (.dma sR) (.remote (Dev.tc n : Thread nD τ) (slotV off inb) (.dma sS) hsc)}
    {α : Type} {Q : α → sProp 𝕄} {kk : PUnit → Prog (TpuEff nD τ sig (Elt F) Λ₀ .tc) α} :
    iprop(records m K ∗ accPts c (halfOf k) (accF m c (hopOf k).val) ∗ (∃ f, slotPts (nxt c) k f) ∗ owesE c k.val
        ∗ dutyTok ER (sendCell c k) 0 () ∗ dutyTok ER (recvCell (nxt c) k) 0 ())
      ⊢ iprop((cred (tallyAt (sendCell c k) () N) ∗ owesE c (k.val + 1)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (acV off' inb') (.remote (Dev.tc n : Thread nD τ) (slotV off inb) (.dma sS) hsc) (.dma sR) hsrc hdst hsem) kk) Q) := by
  subst hn hS hR
  have ha : (acV off' inb').view.set = hS (halfOf k) := acV_set (halfOf k) off' h' inb'
  have hl : (slotV off inb).view.set = slotS k := slotV_set k off h inb
  have hd1 : () ∈ (ringRd (F := F) m).duties (sendCell c k) 0 := by rw [duties_send]; exact Finset.mem_singleton_self _
  have hd2 : () ∈ (ringRd (F := F) m).duties (recvCell (nxt c) k) 0 := by rw [duties_recv]; exact Finset.mem_singleton_self _
  unfold owesE
  iintro ⟨#HR, Hacc, ⟨%fd, Hslot⟩, ⟨%W, HO⟩, HtS, HtR⟩ Hk
  ihave HRS := (rec_send m K c k) $$ HR
  ihave HRR := (rec_recv m K (nxt c) k) $$ HR
  icases HRS with ⟨#HIs, #Hrs⟩
  icases HRR with ⟨#HIr, #Hrr⟩
  have hp1 : (((acV off' inb').view.loc (c : Thread nD τ)) ↦[(acV off' inb').view.set]{fullShare} (accF m c (hopOf k).val) : sProp 𝕄)
      ⊢ (ringRd (F := F) m).payload (sendCell c k) 0 () := by
    rw [payload_send, ha]; unfold sendPay accPts; exact Entails.refl _
  have hp2 := land_pay m c k off h inb off' h' inb' fd
  rw [← payload_recv m (nxt c) k 0 ()] at hp2
  iapply (Rounds.wp_send_pointsTo 𝒱₀ ER (ringRd m) (c : Thread nD τ) none (κ₁ := K (c, false, k)) (κ₂ := K (nxt c, true, k))
    (src := acV off' inb') (c' := (Dev.tc (nxt c) : Thread nD τ)) (dst := slotV off inb) (hsc := hsc) (sS := .dma (sendSem k)) (sem := .dma (recvSem k))
    (hsrc := hsrc) (hdst := hdst) (hsem := hsem) (k := kk) (Q := Q)
    (r₁ := 0) (r₂ := 0) (d₁ := ()) (d₂ := ()) (fd := fd) (fs := accF m c (hopOf k).val) (q := fullShare) hd1 hd2
    () () N rfl (amount_all m _ _ _) (amount_all m _ _ _) (owedFrom c (k.val + 1)) (owedFrom_step c k) (W := W) hp1 hp2 (Es := Set.univ)) $$ [Hacc Hslot HO HtS HtR]
  · isplitr; · iexact HIs
    isplitr; · iexact HIr
    isplitl [Hacc]; · rw [ha]; unfold accPts; iexact Hacc
    isplitl [Hslot]; · rw [hl]; unfold slotPts; iexact Hslot
    isplitl [HO]; · iexact HO
    isplitl [HtS]; · iexact HtS
    isplitr; · iexact Hrs
    isplitl [HtR]; · iexact HtR
    iexact Hrr
  iintro ⟨Hc, HO⟩
  iapply Hk
  isplitl [Hc]; · iexact Hc
  iexists W; iexact HO

/-- The wait for landing `k`: the slot comes filled, and the cell's one round is over. -/
theorem wp_recv (K : RIx → ℕ) (c : Dev nD) (k : Fin 14) (n : ℕ) (hk : k.val + 1 ≤ n)
    {off : Fin 4 → ℕ} {inb} {off' : Fin 3 → ℕ} {inb'} (s : DmaSem sig) (hs : s = recvSem k)
    {hsrc : (acV off' inb').view.WordExact} {hdst : (slotV off inb).view.WordExact}
    {α : Type} {Q : α → sProp 𝕄} {kk : PUnit → Prog (TpuEff nD τ sig (Elt F) Λ₀ .tc) α} :
    iprop(records m K ∗ levAts L lv ∗ cred (tallyAt (recvCell c k) () N) ∗ owesE c n ∗ atPos ER (recvCell c k) 0 ∅ 0)
      ⊢ iprop((slotPts c k (recvF m c) ∗ semVal (recvCell c k) 0 ∗ owesE c n
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 s (acV off' inb') (slotV off inb) hsrc hdst) kk) Q) := by
  subst hs
  unfold owesE
  iintro ⟨#HR, #Hlev, Hc, ⟨%W, HO⟩, Hat⟩ Hk
  ihave HRR := (rec_recv m K c k) $$ HR
  icases HRR with ⟨#HI, -⟩
  iapply (Rounds.wp_wait_rest_token 𝒱₀ ER (ringRd m) (c : Thread nD τ) none (κ := K (c, true, k))
      (wpE_waitDma2_eq 𝒱₀ (c : Thread nD τ) none Set.univ) (Set.mem_univ _) () (O := owedFrom c n) (W := W) (R := 0) (m := 0) (T := ∅)
      (by rw [Nat.zero_add, expect_recv]; rfl)) $$ [Hc HO Hat]
  · isplitr; · iexact HI
    isplitl [Hc]; · iexact Hc
    isplitl [HO]; · iexact HO
    isplitr; · iapply (mayWait_recv c k n hk); iexact Hlev
    iexact Hat
  iintro ⟨HO, Hat, -, Hpay⟩
  ihave Hpay := (Entails.of_eq (rest_recv m c k)) $$ Hpay
  imod (Rounds.cell_close ER (ringRd m) (Set.mem_univ (K (c, true, k))) (fun h => h) (R := 0 + 1) (duties_later m (recvCell c k))) $$ [Hat] with Hz
  · isplitr; · iexact HI
    iexact Hat
  iapply Hk
  isplitl [Hpay]; · unfold recvPay; iexact Hpay
  isplitl [Hz]; · iexact Hz
  iexists _; iexact HO

/-- The wait for read-out `k`: the half comes back. -/
theorem wp_sent (K : RIx → ℕ) (c : Dev nD) (k : Fin 14) (n : ℕ)
    {off : Fin 4 → ℕ} {inb} {off' : Fin 3 → ℕ} {inb'} (s : DmaSem sig) (hs : s = sendSem k)
    {hsrc : (slotV off inb).view.WordExact} {hdst : (acV off' inb').view.WordExact}
    {α : Type} {Q : α → sProp 𝕄} {kk : PUnit → Prog (TpuEff nD τ sig (Elt F) Λ₀ .tc) α} :
    iprop(records m K ∗ levAts L lv ∗ cred (tallyAt (sendCell c k) () N) ∗ owesE c n ∗ atPos ER (sendCell c k) 0 ∅ 0)
      ⊢ iprop((accPts c (halfOf k) (accF m c (hopOf k).val) ∗ semVal (sendCell c k) 0 ∗ owesE c n
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 s (slotV off inb) (acV off' inb') hsrc hdst) kk) Q) := by
  subst hs
  unfold owesE
  iintro ⟨#HR, #Hlev, Hc, ⟨%W, HO⟩, Hat⟩ Hk
  ihave HRR := (rec_send m K c k) $$ HR
  icases HRR with ⟨#HI, -⟩
  iapply (Rounds.wp_wait_rest_token 𝒱₀ ER (ringRd m) (c : Thread nD τ) none (κ := K (c, false, k))
      (wpE_waitDma2_eq 𝒱₀ (c : Thread nD τ) none Set.univ) (Set.mem_univ _) () (O := owedFrom c n) (W := W) (R := 0) (m := 0) (T := ∅)
      (by rw [Nat.zero_add, expect_send]; rfl)) $$ [Hc HO Hat]
  · isplitr; · iexact HI
    isplitl [Hc]; · iexact Hc
    isplitl [HO]; · iexact HO
    isplitr; · iapply (mayWait_send c k n); iexact Hlev
    iexact Hat
  iintro ⟨HO, Hat, -, Hpay⟩
  ihave Hpay := (Entails.of_eq (rest_send m c k)) $$ Hpay
  imod (Rounds.cell_close ER (ringRd m) (Set.mem_univ (K (c, false, k))) (fun h => h) (R := 0 + 1) (duties_later m (sendCell c k))) $$ [Hat] with Hz
  · isplitr; · iexact HI
    iexact Hat
  iapply Hk
  isplitl [Hpay]; · unfold sendPay; iexact Hpay
  isplitl [Hz]; · iexact Hz
  iexists _; iexact HO

end Cert.Proof.K

end
-- ==== Proof.Sums.lean ====
/-
  The tiles of a hop's sum: the landed tile is brought in, the product's tile is added to it, and the sum goes back to the
  sum buffer, or, at the last hop, to the result.
-/
module

public import proofs.«01_k».proof.Proof.Pieces

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]

local notation "𝕄" => MT nD τ sig Unit (Elt F) ℕ UU ℕ

variable (m : (ℓ : Loc nD τ sig) → Buf (Elt F) ℓ)

/-! ## Bringing a landed tile in -/

/-- Tile `t` of landing `k`. -/
def IsTile (c : Dev nD) (k : Fin 14) (t : ℕ) (ht : t < 4) (va : Vec F S128x8192 .bf16) : Prop :=
  ∀ (r : Fin 128) (y : Fin 8192), va (ix2 r y) = recvF m c (ix4 (kHop k) (kHalf k) (rowAt t ht r) y)

theorem wp_tile (c : Dev nD) (k : Fin 14) (t : ℕ) (ht : t < 4) (n : ℕ)
    (off : Fin 4 → ℕ) (h : off = ![k.val / 2, k.val % 2, 128 * t, 0]) (inb)
    {hsrc : (rtV off inb).view.WordExact} {hdst : (Memref.whole cc0_scratch4 : Memref sig .tc .vmem S128x8192 .bf16).view.WordExact}
    {hsem : DmaTarget.Typed (nD := nD) (p := (Proc.tc : Proc τ)) .hbm (.dma vaSem) (.here (Memref.whole cc0_scratch4 : Memref sig .tc .vmem S128x8192 .bf16))}
    {hsrc' : (rtV off inb).view.WordExact} {hdst' : (Memref.whole cc0_scratch4 : Memref sig .tc .vmem S128x8192 .bf16).view.WordExact}
    {α : Type} {Q : α → sProp 𝕄} {kk : PUnit → Prog (TpuEff nD τ sig (Elt F) Λ₀ .tc) α} :
    iprop(levAts L lv ∗ slotPts c k (recvF m c) ∗ (∃ f, vaPts c f) ∗ semVal ((c : Thread nD τ), .dma vaSem) 0 ∗ owesE c n)
      ⊢ iprop((∀ va, ⌜IsTile m c k t ht va⌝ -∗ slotPts c k (recvF m c) ∗ vaPts c va ∗ semVal ((c : Thread nD τ), .dma vaSem) 0 ∗ owesE c n
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (rtV off inb) (.here (Memref.whole cc0_scratch4)) (.dma vaSem) hsrc hdst hsem) fun _ =>
                .op (.waitDma2 vaSem (rtV off inb) (Memref.whole cc0_scratch4) hsrc' hdst') kk) Q) := by
  unfold slotPts vaPts owesE
  iintro ⟨#Hlev, Ho, ⟨%f, Hv⟩, Hs, ⟨%W, HO⟩⟩ Hk
  ihave Ho := (pointsTo_split_subset (rtV_subset k t off h inb)).1 $$ Ho
  icases Ho with ⟨Ho, Hrest⟩
  iapply (Transfers.wp_dmaLocal EC 𝒱₀ (c : Thread nD τ) none () NV rfl NV_pos (Sd := Finset.univ) (fs := recvF m c) (fd := f)
    (src := rtV off inb) (dst := (Memref.whole cc0_scratch4 : Memref sig .tc .vmem S128x8192 .bf16)) (Finset.subset_univ _)) $$ [Ho Hv Hs]
  · isplitl [Ho]; · iexact Ho
    isplitl [Hv]; · iexact Hv
    iexact Hs
  iintro HF
  iapply (Transfers.wp_waitLocalO EC 𝒱₀ (c : Thread nD τ) none () (N := NV) (srcw := rtV off inb) (dstw := (Memref.whole cc0_scratch4 : Memref sig .tc .vmem S128x8192 .bf16)) (hsrc := hsrc') (hdst := hdst') rfl) $$ [HF HO]
  · isplitl [HF]; · iexact HF
    isplitl [HO]; · iexact HO
    iapply (mayWait_local c vaSem (by decide) n); iexact Hlev
  iintro ⟨⟨Hv, Ho⟩, Hs, HO⟩
  iapply Hk $$ [] [Hv Ho Hrest Hs HO]
  rotate_left
  · isplitl [Ho Hrest]
    · iapply (pointsTo_split_subset (rtV_subset k t off h inb)).2
      isplitl [Ho]; · iexact Ho
      iexact Hrest
    isplitl [Hv]; · iexact Hv
    isplitl [Hs]; · iexact Hs
    iexists _; iexact HO
  · ipureintro
    intro r y
    exact (congrFun (View.write_whole_univ _ _ _) (ix2 r y)).trans (rtV_read k t ht off h inb (recvF m c) r y)

/-! ## A tile of a sum -/

/-- The sum that hop `s` forms is, at a row, the landed element and the product's. -/
theorem sum_spec (c : Dev nD) (k : Fin 14) (t : ℕ) (ht : t < 4) {va : Vec F S128x8192 .bf16} (hva : IsTile m c k t ht va)
    {off : Fin 3 → ℕ} (h : off = ![k.val % 2, 128 * t, 0]) (inb : ∀ a, off a + S1x128x8192.size a ≤ S2x512x8192.size a)
    {f : Vec F S2x512x8192 .bf16} (hf : ∀ i ∈ hS (halfOf k), f i = vbF m c (chunk c (hopOf k).val) i) (r : Fin 128) (y : Fin 8192) :
    k0_pay3 va ((Memref.whole cc0_scratch2).view.readAt (Elt F) (tR off inb).toLoadRect f) (ix3 0 r y)
      = accF m c ((hopOf k).val + 1) (ix3 (halfOf k) (rowAt t ht r) y) := by
  rw [sum_at, hva r y, vb_read (halfOf k) t ht off h inb f 0 r y, hf _ ((mem_hS _ _).mpr rfl)]
  rfl

/-- The same at the last hop, in the result's format. -/
theorem sum_last (c : Dev nD) (k : Fin 14) (hk : k.val / 2 = 6) (t : ℕ) (ht : t < 4) {va : Vec F S128x8192 .bf16} (hva : IsTile m c k t ht va)
    {off : Fin 3 → ℕ} (h : off = ![k.val % 2, 128 * t, 0]) (inb : ∀ a, off a + S1x128x8192.size a ≤ S2x512x8192.size a)
    {f : Vec F S2x512x8192 .bf16} (hf : ∀ i ∈ hS (halfOf k), f i = vbF m c (chunk c (hopOf k).val) i) (r : Fin 128) (y : Fin 8192) :
    k0_pay4 va ((Memref.whole cc0_scratch2).view.readAt (Elt F) (tR off inb).toLoadRect f) (ix2 r y)
      = outF m c (ix3 (halfOf k) (rowAt t ht r) y) := by
  have h6 : hopOf k = (6 : Fin 7) := Fin.ext hk
  have h6' : kHop k = (6 : Fin 7) := Fin.ext hk
  rw [sum32_at, hva r y, vb_read (halfOf k) t ht off h inb f 0 r y, hf _ ((mem_hS _ _).mpr rfl), h6, h6']
  rfl

theorem wp_sum (c : Dev nD) (k : Fin 14) (t : ℕ) (ht : t < 4)
    (off : Fin 3 → ℕ) (h : off = ![k.val % 2, 128 * t, 0]) (inb : ∀ a, off a + S1x128x8192.size a ≤ S2x512x8192.size a)
    (inbw : ∀ a, (![0, 0] : Fin 2 → ℕ) a + S128x8192.size a ≤ S128x8192.size a)
    {h1 : (Memref.whole cc0_scratch4 : Memref sig .tc .vmem S128x8192 .bf16).view.LoadsAt (Rect.unit (s := S128x8192) ![0, 0] S128x8192.size inbw).toLoadRect}
    {h2 : (Memref.whole cc0_scratch2 : Memref sig .tc .vmem S2x512x8192 .bf16).view.LoadsAt (tR off inb).toLoadRect}
    {h3 : (Memref.whole cc0_scratch1 : Memref sig .tc .vmem S2x512x8192 .bf16).view.LoadsAt (tR off inb).toLoadRect}
    {h4 : ((Memref.whole cc0_scratch1 : Memref sig .tc .vmem S2x512x8192 .bf16).access (tR off inb)).Stores Finset.univ}
    {h5 : (Finset.univ : Finset (tR off inb).shape.Idx) = Finset.univ ∨ ∀ a, (tR off inb).stride a = 1}
    {va : Vec F S128x8192 .bf16} (hva : IsTile m c k t ht va)
    {f : Vec F S2x512x8192 .bf16} (hf : ∀ i ∈ hS (halfOf k), f i = vbF m c (chunk c (hopOf k).val) i)
    {g : Vec F S2x512x8192 .bf16} (hg : UpTo (halfOf k) t (accF m c ((hopOf k).val + 1)) g)
    {α : Type} {Q : α → sProp 𝕄} {kk : PUnit → Prog (TpuEff nD τ sig (Elt F) Λ₀ .tc) α} :
    iprop(vaPts c va ∗ vbPts c (halfOf k) f ∗ accPts c (halfOf k) g)
      ⊢ iprop((∀ g, ⌜UpTo (halfOf k) (t + 1) (accF m c ((hopOf k).val + 1)) g⌝ -∗ vaPts c va ∗ vbPts c (halfOf k) f ∗ accPts c (halfOf k) g
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.load (Memref.whole cc0_scratch4) (Rect.unit (s := S128x8192) ![0, 0] S128x8192.size inbw).toLoadRect h1) fun v1 =>
                .op (.load (Memref.whole cc0_scratch2) (tR off inb).toLoadRect h2) fun v2 =>
                .op (.load (Memref.whole cc0_scratch1) (tR off inb).toLoadRect h3) fun _ =>
                .op (.store (Memref.whole cc0_scratch1) (tR off inb) (k0_pay3 v1 v2) Finset.univ h4 h5) kk) Q) := by
  unfold vaPts vbPts accPts
  iintro ⟨Hva, Hvb, Hac⟩ Hk
  iapply (wp_load 𝒱₀ (c : Thread nD τ) none Set.univ (m := Memref.whole cc0_scratch4) (Finset.subset_univ _)) $$ Hva; iintro Hva
  iapply (wp_load 𝒱₀ (c : Thread nD τ) none Set.univ (m := Memref.whole cc0_scratch2) (by rw [setOn_whole]; exact tile_sub_hS (halfOf k) t off h inb)) $$ Hvb; iintro Hvb
  iapply (wp_load 𝒱₀ (c : Thread nD τ) none Set.univ (m := Memref.whole cc0_scratch1) (by rw [setOn_whole]; exact tile_sub_hS (halfOf k) t off h inb)) $$ Hac; iintro Hac
  rw [va_read]
  iapply (wp_store 𝒱₀ (c : Thread nD τ) none Set.univ (m := Memref.whole cc0_scratch1) (r := tR off inb) (Mk := Finset.univ)
    (by rw [View.setOn_univ]; exact (Finset.subset_of_eq (View.set_slice_whole cc0_scratch1 _)).trans (tile_sub_hS (halfOf k) t off h inb))) $$ Hac; iintro Hac
  iapply Hk $$ [] [Hva Hvb Hac]
  rotate_left
  · isplitl [Hva]; · iexact Hva
    isplitl [Hvb]; · iexact Hvb
    iexact Hac
  · ipureintro
    exact hg.step ht (fun r y => (acc_write_in (halfOf k) t ht off h inb g _ r y).trans (sum_spec m c k t ht hva h inb hf r y))
      fun x y hx => acc_write_out (halfOf k) t off h inb g _ x y hx

/-! ## A tile of the result -/

theorem wp_result (c : Dev nD) (k : Fin 14) (hk : k.val / 2 = 6) (t : ℕ) (ht : t < 4) (n : ℕ)
    (off : Fin 3 → ℕ) (h : off = ![k.val % 2, 128 * t, 0]) (inb : ∀ a, off a + S1x128x8192.size a ≤ S2x512x8192.size a)
    (off' : Fin 3 → ℕ) (h' : off' = ![k.val % 2, 128 * t, 0]) (inb')
    (inbw : ∀ a, (![0, 0] : Fin 2 → ℕ) a + S128x8192.size a ≤ S128x8192.size a)
    {h1 : (Memref.whole cc0_scratch4 : Memref sig .tc .vmem S128x8192 .bf16).view.LoadsAt (Rect.unit (s := S128x8192) ![0, 0] S128x8192.size inbw).toLoadRect}
    {h2 : (Memref.whole cc0_scratch2 : Memref sig .tc .vmem S2x512x8192 .bf16).view.LoadsAt (tR off inb).toLoadRect}
    {h3 : (Memref.whole cc0_scratch5 : Memref sig .tc .vmem S128x8192 .f32).view.LoadsAt (Rect.unit (s := S128x8192) ![0, 0] S128x8192.size inbw).toLoadRect}
    {h4 : ((Memref.whole cc0_scratch5 : Memref sig .tc .vmem S128x8192 .f32).access (Rect.unit (s := S128x8192) ![0, 0] S128x8192.size inbw)).Stores Finset.univ}
    {h5 : (Finset.univ : Finset (Rect.unit (s := S128x8192) ![0, 0] S128x8192.size inbw).shape.Idx) = Finset.univ ∨ ∀ a, (Rect.unit (s := S128x8192) ![0, 0] S128x8192.size inbw).stride a = 1}
    {hsrc : (Memref.whole cc0_scratch5 : Memref sig .tc .vmem S128x8192 .f32).view.WordExact} {hdst : (otV off' inb').view.WordExact}
    {hsem : DmaTarget.Typed (nD := nD) (p := (Proc.tc : Proc τ)) .vmem (.dma stSem) (.here (otV off' inb'))}
    {hsrc' : (Memref.whole cc0_scratch5 : Memref sig .tc .vmem S128x8192 .f32).view.WordExact} {hdst' : (otV off' inb').view.WordExact}
    {va : Vec F S128x8192 .bf16} (hva : IsTile m c k t ht va)
    {f : Vec F S2x512x8192 .bf16} (hf : ∀ i ∈ hS (halfOf k), f i = vbF m c (chunk c (hopOf k).val) i)
    {g : Vec F S2x512x8192 .f32} (hg : UpTo (halfOf k) t (outF m c) g)
    {α : Type} {Q : α → sProp 𝕄} {kk : PUnit → Prog (TpuEff nD τ sig (Elt F) Λ₀ .tc) α} :
    iprop(levAts L lv ∗ vaPts c va ∗ vbPts c (halfOf k) f ∗ (∃ w, vfPts c w) ∗ outPts c g ∗ semVal ((c : Thread nD τ), .dma stSem) 0 ∗ owesE c n)
      ⊢ iprop((∀ g', ⌜UpTo (halfOf k) (t + 1) (outF m c) g' ∧ ∀ b x y, b ≠ halfOf k → g' (ix3 b x y) = g (ix3 b x y)⌝
              -∗ vaPts c va ∗ vbPts c (halfOf k) f ∗ (∃ w, vfPts c w) ∗ outPts c g' ∗ semVal ((c : Thread nD τ), .dma stSem) 0 ∗ owesE c n
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.load (Memref.whole cc0_scratch4) (Rect.unit (s := S128x8192) ![0, 0] S128x8192.size inbw).toLoadRect h1) fun v1 =>
                .op (.load (Memref.whole cc0_scratch2) (tR off inb).toLoadRect h2) fun v2 =>
                .op (.load (Memref.whole cc0_scratch5) (Rect.unit (s := S128x8192) ![0, 0] S128x8192.size inbw).toLoadRect h3) fun _ =>
                .op (.store (Memref.whole cc0_scratch5) (Rect.unit (s := S128x8192) ![0, 0] S128x8192.size inbw) (k0_pay4 v1 v2) Finset.univ h4 h5) fun _ =>
                .op (.enqueueDma (Memref.whole cc0_scratch5) (.here (otV off' inb')) (.dma stSem) hsrc hdst hsem) fun _ =>
                .op (.waitDma2 stSem (Memref.whole cc0_scratch5) (otV off' inb') hsrc' hdst') kk) Q) := by
  unfold vaPts vbPts vfPts outPts owesE
  iintro ⟨#Hlev, Hva, Hvb, ⟨%w, Hvf⟩, Hout, Hs, ⟨%W, HO⟩⟩ Hk
  iapply (wp_load 𝒱₀ (c : Thread nD τ) none Set.univ (m := Memref.whole cc0_scratch4) (Finset.subset_univ _)) $$ Hva; iintro Hva
  iapply (wp_load 𝒱₀ (c : Thread nD τ) none Set.univ (m := Memref.whole cc0_scratch2) (by rw [setOn_whole]; exact tile_sub_hS (halfOf k) t off h inb)) $$ Hvb; iintro Hvb
  iapply (wp_load 𝒱₀ (c : Thread nD τ) none Set.univ (m := Memref.whole cc0_scratch5) (Finset.subset_univ _)) $$ Hvf; iintro Hvf
  rw [va_read]
  iapply (wp_store 𝒱₀ (c : Thread nD τ) none Set.univ (m := Memref.whole cc0_scratch5) (r := Rect.unit (s := S128x8192) ![0, 0] S128x8192.size inbw) (Mk := Finset.univ)
    (Finset.subset_univ _)) $$ Hvf; iintro Hvf
  rw [vf_write]
  iapply (Transfers.wp_dmaLocal EC 𝒱₀ (c : Thread nD τ) none () NR rfl NR_pos (Sd := Finset.univ) (fd := g)
    (fs := k0_pay4 va ((Memref.whole cc0_scratch2).view.readAt (Elt F) (tR off inb).toLoadRect f))
    (src := (Memref.whole cc0_scratch5 : Memref sig .tc .vmem S128x8192 .f32)) (dst := otV off' inb') (Finset.subset_univ _)) $$ [Hvf Hout Hs]
  · isplitl [Hvf]
    · rw [show (Memref.whole cc0_scratch5 : Memref sig .tc .vmem S128x8192 .f32).view.set = Finset.univ from View.set_whole cc0_scratch5]; iexact Hvf
    isplitl [Hout]; · iexact Hout
    iexact Hs
  iintro HF
  iapply (Transfers.wp_waitLocalO EC 𝒱₀ (c : Thread nD τ) none () (N := NR) (srcw := (Memref.whole cc0_scratch5 : Memref sig .tc .vmem S128x8192 .f32)) (dstw := otV off' inb') (hsrc := hsrc') (hdst := hdst') rfl) $$ [HF HO]
  · isplitl [HF]; · iexact HF
    isplitl [HO]; · iexact HO
    iapply (mayWait_local c stSem (by decide) n); iexact Hlev
  iintro ⟨⟨Hout, Hvf⟩, Hs, HO⟩
  iapply Hk $$ [] [Hva Hvb Hvf Hout Hs HO]
  rotate_left
  · isplitl [Hva]; · iexact Hva
    isplitl [Hvb]; · iexact Hvb
    isplitl [Hvf]
    · iexists _
      rw [show (Memref.whole cc0_scratch5 : Memref sig .tc .vmem S128x8192 .f32).view.set = Finset.univ from View.set_whole cc0_scratch5]; iexact Hvf
    isplitl [Hout]; · iexact Hout
    isplitl [Hs]; · iexact Hs
    iexists _; iexact HO
  · ipureintro
    refine ⟨hg.step ht (fun r y => (otV_write_in (halfOf k) t ht off' h' inb' g _ r y).trans (sum_last m c k hk t ht hva h inb hf r y))
      fun x y hx => otV_write_out (halfOf k) t off' h' inb' g _ _ fun hh => hx hh.2, fun b x y hb => ?_⟩
    exact otV_write_out (halfOf k) t off' h' inb' g _ _ fun hh => hb (Fin.ext hh.1)

end Cert.Proof.K

end
-- ==== Proof.TileLoops.lean ====
/-
  The kernel's six loops over tiles: four form a product, two form a sum or, at the last hop, the result.
-/
module

public import proofs.«01_k».proof.Proof.Sums

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]

local notation "𝕄" => MT nD τ sig Unit (Elt F) ℕ UU ℕ

variable (m : (ℓ : Loc nD τ sig) → Buf (Elt F) ℓ)

/-! ## The loops' bodies, at the kernel's buffers -/

abbrev body1 (d0 : Dev nD) (v4 : BitVec 32) : Fin k0_t1_loop.trips → Unit → Prog (TpuEff nD τ sig (Elt F) Λ₀ .tc) Unit :=
  k0_t1_body (F := F) (Memref.whole main_arg0) (Memref.isWhole_whole _) (Memref.whole main_arg1) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 d0 v4
abbrev body2 (d0 : Dev nD) (v4 : BitVec 32) : Fin k0_t2_loop.trips → Unit → Prog (TpuEff nD τ sig (Elt F) Λ₀ .tc) Unit :=
  k0_t2_body (F := F) (Memref.whole main_arg0) (Memref.isWhole_whole _) (Memref.whole main_arg1) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 d0 v4
abbrev body4 (d0 : Dev nD) (v2 x1 x2 : BitVec 32) (s : Fin k0_t3_loop.trips) : Fin k0_t4_loop.trips → Unit → Prog (TpuEff nD τ sig (Elt F) Λ₀ .tc) Unit :=
  k0_t4_body (F := F) (Memref.whole main_arg0) (Memref.isWhole_whole _) (Memref.whole main_arg1) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 d0 v2 x1 x2 s
abbrev body5 (d0 : Dev nD) (v4 : BitVec 32) (s : Fin k0_t3_loop.trips) (x1 : BitVec 32) : Fin k0_t5_loop.trips → Unit → Prog (TpuEff nD τ sig (Elt F) Λ₀ .tc) Unit :=
  k0_t5_body (F := F) (Memref.whole main_arg0) (Memref.isWhole_whole _) (Memref.whole main_arg1) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 d0 v4 s x1
abbrev body6 (d0 : Dev nD) (v4 : BitVec 32) (s : Fin k0_t3_loop.trips) (x1 : BitVec 32) (x2 : BitVec 1) (x3 : BitVec 32) : Fin k0_t6_loop.trips → Unit → Prog (TpuEff nD τ sig (Elt F) Λ₀ .tc) Unit :=
  k0_t6_body (F := F) (Memref.whole main_arg0) (Memref.isWhole_whole _) (Memref.whole main_arg1) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 d0 v4 s x1 x2 x3
abbrev body7 (d0 : Dev nD) (v4 : BitVec 32) (s : Fin k0_t3_loop.trips) (x1 : BitVec 32) (x2 : BitVec 1) (x3 : BitVec 32) : Fin k0_t7_loop.trips → Unit → Prog (TpuEff nD τ sig (Elt F) Λ₀ .tc) Unit :=
  k0_t7_body (F := F) (Memref.whole main_arg0) (Memref.isWhole_whole _) (Memref.whole main_arg1) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 d0 v4 s x1 x2 x3

theorem trips1 : k0_t1_loop.trips = 4 := by decide
theorem trips2 : k0_t2_loop.trips = 4 := by decide
theorem trips4 : k0_t4_loop.trips = 4 := by decide
theorem trips5 : k0_t5_loop.trips = 4 := by decide
theorem trips6 : k0_t6_loop.trips = 4 := by decide
theorem trips7 : k0_t7_loop.trips = 4 := by decide

/-- A half whose four tiles are done is done. -/
theorem vb_done (c : Dev nD) (b : Fin 2) (spec g : Vec F S2x512x8192 .bf16) (h : UpTo b 4 spec g) : vbPts c b g ⊢ vbPts c b spec :=
  Entails.of_eq (pointsTo_congr h.four)
theorem acc_done (c : Dev nD) (b : Fin 2) (spec g : Vec F S2x512x8192 .bf16) (h : UpTo b 4 spec g) : accPts c b g ⊢ accPts c b spec :=
  Entails.of_eq (pointsTo_congr h.four)

/-! ## The products -/

theorem loop1 (c : Dev nD) (j : Fin 8) (d0 : Dev nD) (v4 : BitVec 32) {β : Type} {kk : Unit → Prog (TpuEff nD τ sig (Elt F) Λ₀ .tc) β} {Q : β → sProp 𝕄} :
    iprop(ovPts c 0 (ovF m c j) ∗ wPts m c ∗ (∃ f, accPts c 0 f))
      ⊢ iprop((ovPts c 0 (ovF m c j) ∗ wPts m c ∗ accPts c 0 (vbF m c j) -∗ wp frame (wpE (defs₀ (F := F)) 𝒱₀ (c : Thread nD τ) none) Set.univ (kk ⟨⟩) Q)
          -∗ wp frame (wpE (defs₀ (F := F)) 𝒱₀ (c : Thread nD τ) none) Set.univ (Scf.Loop.for k0_t1_loop k0_t1_ok ⟨⟩ (body1 (F := F) d0 v4) >>= kk) Q) := by
  iintro ⟨Ho, Hw, ⟨%f, Hv⟩⟩ Hk
  iapply (Scf.wp_for_bind frame (wpE (defs₀ (F := F)) 𝒱₀ (c : Thread nD τ) none) Set.univ k0_t1_loop.lb k0_t1_loop.ub k0_t1_loop.st k0_t1_ok ⟨⟩ (body1 (F := F) d0 v4)
    (fun t _ => iprop(∃ g, ⌜UpTo 0 t (vbF m c j) g⌝ ∗ ovPts c 0 (ovF m c j) ∗ wPts m c ∗ accPts c 0 g)) ?_) $$ [Ho Hw Hv]
  rotate_left
  · iexists f
    isplitr; · ipureintro; exact UpTo.zero _ _ _
    isplitl [Ho]; · iexact Ho
    isplitl [Hw]; · iexact Hw
    iexact Hv
  · iintro %acc ⟨%g, %hg, Ho, Hw, Hv⟩
    iapply Hk
    isplitl [Ho]; · iexact Ho
    isplitl [Hw]; · iexact Hw
    iapply (acc_done c 0 (vbF m c j) g ((show Scf.trips _ _ _ = 4 from trips1) ▸ hg)); iexact Hv
  · intro t acc
    have ht : t.val < 4 := Nat.lt_of_lt_of_eq t.isLt trips1
    iintro ⟨%g, %hg, Ho, Hw, Hv⟩
    unfold body1 k0_t1_body
    simp only [Prog.lift, Prog.bind_op, Prog.bind_ret, Prog.pure_eq_ret]
    iapply (wp_prod_acc m c j 0 t.val ht (k0_off3 t) (k0_off3_eq t) _ (k0_off4 t) (k0_off4_eq t) _ _ hg) $$ [Ho Hw Hv]
    · isplitl [Ho]; · iexact Ho
      isplitl [Hw]; · iexact Hw
      iexact Hv
    iintro %g' %hg' ⟨Ho, Hw, Hv⟩
    rw [wp_ret]
    imodintro
    iexists g'
    isplitr; · ipureintro; exact hg'
    isplitl [Ho]; · iexact Ho
    isplitl [Hw]; · iexact Hw
    iexact Hv

theorem loop2 (c : Dev nD) (j : Fin 8) (d0 : Dev nD) (v4 : BitVec 32) {β : Type} {kk : Unit → Prog (TpuEff nD τ sig (Elt F) Λ₀ .tc) β} {Q : β → sProp 𝕄} :
    iprop(ovPts c 1 (ovF m c j) ∗ wPts m c ∗ (∃ f, accPts c 1 f))
      ⊢ iprop((ovPts c 1 (ovF m c j) ∗ wPts m c ∗ accPts c 1 (vbF m c j) -∗ wp frame (wpE (defs₀ (F := F)) 𝒱₀ (c : Thread nD τ) none) Set.univ (kk ⟨⟩) Q)
          -∗ wp frame (wpE (defs₀ (F := F)) 𝒱₀ (c : Thread nD τ) none) Set.univ (Scf.Loop.for k0_t2_loop k0_t2_ok ⟨⟩ (body2 (F := F) d0 v4) >>= kk) Q) := by
  iintro ⟨Ho, Hw, ⟨%f, Hv⟩⟩ Hk
  iapply (Scf.wp_for_bind frame (wpE (defs₀ (F := F)) 𝒱₀ (c : Thread nD τ) none) Set.univ k0_t2_loop.lb k0_t2_loop.ub k0_t2_loop.st k0_t2_ok ⟨⟩ (body2 (F := F) d0 v4)
    (fun t _ => iprop(∃ g, ⌜UpTo 1 t (vbF m c j) g⌝ ∗ ovPts c 1 (ovF m c j) ∗ wPts m c ∗ accPts c 1 g)) ?_) $$ [Ho Hw Hv]
  rotate_left
  · iexists f
    isplitr; · ipureintro; exact UpTo.zero _ _ _
    isplitl [Ho]; · iexact Ho
    isplitl [Hw]; · iexact Hw
    iexact Hv
  · iintro %acc ⟨%g, %hg, Ho, Hw, Hv⟩
    iapply Hk
    isplitl [Ho]; · iexact Ho
    isplitl [Hw]; · iexact Hw
    iapply (acc_done c 1 (vbF m c j) g ((show Scf.trips _ _ _ = 4 from trips2) ▸ hg)); iexact Hv
  · intro t acc
    have ht : t.val < 4 := Nat.lt_of_lt_of_eq t.isLt trips2
    iintro ⟨%g, %hg, Ho, Hw, Hv⟩
    unfold body2 k0_t2_body
    simp only [Prog.lift, Prog.bind_op, Prog.bind_ret, Prog.pure_eq_ret]
    iapply (wp_prod_acc m c j 1 t.val ht (k0_off5 t) (k0_off5_eq t) _ (k0_off6 t) (k0_off6_eq t) _ _ hg) $$ [Ho Hw Hv]
    · isplitl [Ho]; · iexact Ho
      isplitl [Hw]; · iexact Hw
      iexact Hv
    iintro %g' %hg' ⟨Ho, Hw, Hv⟩
    rw [wp_ret]
    imodintro
    iexists g'
    isplitr; · ipureintro; exact hg'
    isplitl [Ho]; · iexact Ho
    isplitl [Hw]; · iexact Hw
    iexact Hv

theorem loop4 (c : Dev nD) (j : Fin 8) (d0 : Dev nD) (v2 x1 x2 : BitVec 32) (s : Fin k0_t3_loop.trips) {β : Type} {kk : Unit → Prog (TpuEff nD τ sig (Elt F) Λ₀ .tc) β} {Q : β → sProp 𝕄} :
    iprop(ovPts c 0 (ovF m c j) ∗ wPts m c ∗ (∃ f, vbPts c 0 f))
      ⊢ iprop((ovPts c 0 (ovF m c j) ∗ wPts m c ∗ vbPts c 0 (vbF m c j) -∗ wp frame (wpE (defs₀ (F := F)) 𝒱₀ (c : Thread nD τ) none) Set.univ (kk ⟨⟩) Q)
          -∗ wp frame (wpE (defs₀ (F := F)) 𝒱₀ (c : Thread nD τ) none) Set.univ (Scf.Loop.for k0_t4_loop k0_t4_ok ⟨⟩ (body4 (F := F) d0 v2 x1 x2 s) >>= kk) Q) := by
  iintro ⟨Ho, Hw, ⟨%f, Hv⟩⟩ Hk
  iapply (Scf.wp_for_bind frame (wpE (defs₀ (F := F)) 𝒱₀ (c : Thread nD τ) none) Set.univ k0_t4_loop.lb k0_t4_loop.ub k0_t4_loop.st k0_t4_ok ⟨⟩ (body4 (F := F) d0 v2 x1 x2 s)
    (fun t _ => iprop(∃ g, ⌜UpTo 0 t (vbF m c j) g⌝ ∗ ovPts c 0 (ovF m c j) ∗ wPts m c ∗ vbPts c 0 g)) ?_) $$ [Ho Hw Hv]
  rotate_left
  · iexists f
    isplitr; · ipureintro; exact UpTo.zero _ _ _
    isplitl [Ho]; · iexact Ho
    isplitl [Hw]; · iexact Hw
    iexact Hv
  · iintro %acc ⟨%g, %hg, Ho, Hw, Hv⟩
    iapply Hk
    isplitl [Ho]; · iexact Ho
    isplitl [Hw]; · iexact Hw
    iapply (vb_done c 0 (vbF m c j) g ((show Scf.trips _ _ _ = 4 from trips4) ▸ hg)); iexact Hv
  · intro t acc
    have ht : t.val < 4 := Nat.lt_of_lt_of_eq t.isLt trips4
    iintro ⟨%g, %hg, Ho, Hw, Hv⟩
    unfold body4 k0_t4_body
    simp only [Prog.lift, Prog.bind_op, Prog.bind_ret, Prog.pure_eq_ret]
    iapply (wp_prod_vb m c j 0 t.val ht (k0_off9 t) (k0_off9_eq t) _ (k0_off10 t) (k0_off10_eq t) _ _ hg) $$ [Ho Hw Hv]
    · isplitl [Ho]; · iexact Ho
      isplitl [Hw]; · iexact Hw
      iexact Hv
    iintro %g' %hg' ⟨Ho, Hw, Hv⟩
    rw [wp_ret]
    imodintro
    iexists g'
    isplitr; · ipureintro; exact hg'
    isplitl [Ho]; · iexact Ho
    isplitl [Hw]; · iexact Hw
    iexact Hv

theorem loop5 (c : Dev nD) (j : Fin 8) (d0 : Dev nD) (v4 : BitVec 32) (s : Fin k0_t3_loop.trips) (x1 : BitVec 32) {β : Type} {kk : Unit → Prog (TpuEff nD τ sig (Elt F) Λ₀ .tc) β} {Q : β → sProp 𝕄} :
    iprop(ovPts c 1 (ovF m c j) ∗ wPts m c ∗ (∃ f, vbPts c 1 f))
      ⊢ iprop((ovPts c 1 (ovF m c j) ∗ wPts m c ∗ vbPts c 1 (vbF m c j) -∗ wp frame (wpE (defs₀ (F := F)) 𝒱₀ (c : Thread nD τ) none) Set.univ (kk ⟨⟩) Q)
          -∗ wp frame (wpE (defs₀ (F := F)) 𝒱₀ (c : Thread nD τ) none) Set.univ (Scf.Loop.for k0_t5_loop k0_t5_ok ⟨⟩ (body5 (F := F) d0 v4 s x1) >>= kk) Q) := by
  iintro ⟨Ho, Hw, ⟨%f, Hv⟩⟩ Hk
  iapply (Scf.wp_for_bind frame (wpE (defs₀ (F := F)) 𝒱₀ (c : Thread nD τ) none) Set.univ k0_t5_loop.lb k0_t5_loop.ub k0_t5_loop.st k0_t5_ok ⟨⟩ (body5 (F := F) d0 v4 s x1)
    (fun t _ => iprop(∃ g, ⌜UpTo 1 t (vbF m c j) g⌝ ∗ ovPts c 1 (ovF m c j) ∗ wPts m c ∗ vbPts c 1 g)) ?_) $$ [Ho Hw Hv]
  rotate_left
  · iexists f
    isplitr; · ipureintro; exact UpTo.zero _ _ _
    isplitl [Ho]; · iexact Ho
    isplitl [Hw]; · iexact Hw
    iexact Hv
  · iintro %acc ⟨%g, %hg, Ho, Hw, Hv⟩
    iapply Hk
    isplitl [Ho]; · iexact Ho
    isplitl [Hw]; · iexact Hw
    iapply (vb_done c 1 (vbF m c j) g ((show Scf.trips _ _ _ = 4 from trips5) ▸ hg)); iexact Hv
  · intro t acc
    have ht : t.val < 4 := Nat.lt_of_lt_of_eq t.isLt trips5
    iintro ⟨%g, %hg, Ho, Hw, Hv⟩
    unfold body5 k0_t5_body
    simp only [Prog.lift, Prog.bind_op, Prog.bind_ret, Prog.pure_eq_ret]
    iapply (wp_prod_vb m c j 1 t.val ht (k0_off11 t) (k0_off11_eq t) _ (k0_off12 t) (k0_off12_eq t) _ _ hg) $$ [Ho Hw Hv]
    · isplitl [Ho]; · iexact Ho
      isplitl [Hw]; · iexact Hw
      iexact Hv
    iintro %g' %hg' ⟨Ho, Hw, Hv⟩
    rw [wp_ret]
    imodintro
    iexists g'
    isplitr; · ipureintro; exact hg'
    isplitl [Ho]; · iexact Ho
    isplitl [Hw]; · iexact Hw
    iexact Hv

/-! ## The sums -/

theorem cond1 : ∀ s : Fin k0_t3_loop.trips, k0_cond1 s = 1#1 ↔ s.val ≠ 6 := by decide +kernel
theorem cond2 : ∀ s : Fin k0_t3_loop.trips, k0_cond2 s = 1#1 ↔ s.val = 6 := by decide +kernel
theorem cond4 : ∀ s : Fin k0_t3_loop.trips, k0_cond4 s = 1#1 ↔ s.val ≠ 6 := by decide +kernel
theorem cond5 : ∀ s : Fin k0_t3_loop.trips, k0_cond5 s = 1#1 ↔ s.val = 6 := by decide +kernel

/-- Hop and half of transfer `2 s + b`, as offsets. -/
theorem at4 {s b k : ℕ} (x : ℕ) (hb : b < 2) (hk : k = 2 * s + b) : (![s, b, x, 0] : Fin 4 → ℕ) = ![k / 2, k % 2, x, 0] := by
  rw [show k / 2 = s by omega, show k % 2 = b by omega]
theorem at3 {s b k : ℕ} (x : ℕ) (hb : b < 2) (hk : k = 2 * s + b) : (![b, x, 0] : Fin 3 → ℕ) = ![k % 2, x, 0] := by
  rw [show k % 2 = b by omega]

theorem loop6_add (c : Dev nD) (k : Fin 14) (n : ℕ) (d0 : Dev nD) (v4 : BitVec 32) (s : Fin k0_t3_loop.trips) (x1 : BitVec 32) (x2 : BitVec 1) (x3 : BitVec 32) (hk : k.val = 2 * s.val + 0) (hs : s.val ≠ 6)
    {β : Type} {kk : Unit → Prog (TpuEff nD τ sig (Elt F) Λ₀ .tc) β} {Q : β → sProp 𝕄} :
    iprop(levAts L lv ∗ slotPts c k (recvF m c) ∗ (∃ f, vaPts c f) ∗ semVal ((c : Thread nD τ), .dma vaSem) 0 ∗ owesE c n ∗ vbPts c (halfOf k) (vbF m c (chunk c (hopOf k).val)) ∗ (∃ f, accPts c (halfOf k) f))
      ⊢ iprop((slotPts c k (recvF m c) ∗ (∃ f, vaPts c f) ∗ semVal ((c : Thread nD τ), .dma vaSem) 0 ∗ owesE c n ∗ vbPts c (halfOf k) (vbF m c (chunk c (hopOf k).val)) ∗ accPts c (halfOf k) (accF m c ((hopOf k).val + 1))
            -∗ wp frame (wpE (defs₀ (F := F)) 𝒱₀ (c : Thread nD τ) none) Set.univ (kk ⟨⟩) Q)
          -∗ wp frame (wpE (defs₀ (F := F)) 𝒱₀ (c : Thread nD τ) none) Set.univ (Scf.Loop.for k0_t6_loop k0_t6_ok ⟨⟩ (body6 (F := F) d0 v4 s x1 x2 x3) >>= kk) Q) := by
  iintro ⟨#Hlev, Hsl, Hva, Hs, HO, Hvb, Hx⟩ Hk
  iapply (Scf.wp_for_bind frame (wpE (defs₀ (F := F)) 𝒱₀ (c : Thread nD τ) none) Set.univ k0_t6_loop.lb k0_t6_loop.ub k0_t6_loop.st k0_t6_ok ⟨⟩ (body6 (F := F) d0 v4 s x1 x2 x3)
    (fun t _ => iprop(levAts L lv ∗ slotPts c k (recvF m c) ∗ (∃ f, vaPts c f) ∗ semVal ((c : Thread nD τ), .dma vaSem) 0 ∗ owesE c n ∗ vbPts c (halfOf k) (vbF m c (chunk c (hopOf k).val)) ∗ (∃ g, ⌜UpTo (halfOf k) t (accF m c ((hopOf k).val + 1)) g⌝ ∗ accPts c (halfOf k) g))) ?_) $$ [Hsl Hva Hs HO Hvb Hx]
  rotate_left
  · isplitr; · iexact Hlev
    isplitl [Hsl]; · iexact Hsl
    isplitl [Hva]; · iexact Hva
    isplitl [Hs]; · iexact Hs
    isplitl [HO]; · iexact HO
    isplitl [Hvb]; · iexact Hvb
    icases Hx with ⟨%f, Hx⟩
    iexists f
    isplitr; · ipureintro; exact UpTo.zero _ _ _
    iexact Hx
  · iintro %acc ⟨-, Hsl, Hva, Hs, HO, Hvb, ⟨%g, %hg, Hx⟩⟩
    iapply Hk
    isplitl [Hsl]; · iexact Hsl
    isplitl [Hva]; · iexact Hva
    isplitl [Hs]; · iexact Hs
    isplitl [HO]; · iexact HO
    isplitl [Hvb]; · iexact Hvb
    iapply (acc_done c (halfOf k) _ g ((show Scf.trips _ _ _ = 4 from trips6) ▸ hg)); iexact Hx
  · intro t acc
    have ht : t.val < 4 := Nat.lt_of_lt_of_eq t.isLt trips6
    iintro ⟨#Hlev, Hsl, Hva, Hs, HO, Hvb, ⟨%g, %hg, Hx⟩⟩
    unfold body6 k0_t6_body
    rw [dif_pos ((cond1 s).mpr hs), dif_neg (fun h => hs ((cond2 s).mp h))]
    simp only [Prog.lift, Prog.bind_op, Prog.bind_ret, Prog.pure_eq_ret]
    iapply (wp_tile m c k t.val ht n (k0_off15 s t) ((k0_off15_eq s t).trans (at4 _ (by omega) hk)) _) $$ [Hsl Hva Hs HO]
    · isplitr; · iexact Hlev
      isplitl [Hsl]; · iexact Hsl
      isplitl [Hva]; · iexact Hva
      isplitl [Hs]; · iexact Hs
      iexact HO
    iintro %va %hva ⟨Hsl, Hva, Hs, HO⟩
    iapply (wp_sum m c k t.val ht (k0_off16 t) ((k0_off16_eq t).trans (at3 _ (by omega) hk)) _ _ hva (fun _ _ => rfl) hg) $$ [Hva Hvb Hx]
    · isplitl [Hva]; · iexact Hva
      isplitl [Hvb]; · iexact Hvb
      iexact Hx
    iintro %g' %hg' ⟨Hva, Hvb, Hx⟩
    rw [wp_ret]
    imodintro
    isplitr; · iexact Hlev
    isplitl [Hsl]; · iexact Hsl
    isplitl [Hva]; · iexists va; iexact Hva
    isplitl [Hs]; · iexact Hs
    isplitl [HO]; · iexact HO
    isplitl [Hvb]; · iexact Hvb
    iexists g'
    isplitr; · ipureintro; exact hg'
    iexact Hx

theorem loop6_out (c : Dev nD) (k : Fin 14) (n : ℕ) (d0 : Dev nD) (v4 : BitVec 32) (s : Fin k0_t3_loop.trips) (x1 : BitVec 32) (x2 : BitVec 1) (x3 : BitVec 32) (hk : k.val = 2 * s.val + 0) (hs : s.val = 6) (g₀ : Vec F S2x512x8192 .f32)
    {β : Type} {kk : Unit → Prog (TpuEff nD τ sig (Elt F) Λ₀ .tc) β} {Q : β → sProp 𝕄} :
    iprop(levAts L lv ∗ slotPts c k (recvF m c) ∗ (∃ f, vaPts c f) ∗ semVal ((c : Thread nD τ), .dma vaSem) 0 ∗ owesE c n ∗ vbPts c (halfOf k) (vbF m c (chunk c (hopOf k).val)) ∗ outPts c g₀ ∗ (∃ w, vfPts c w) ∗ semVal ((c : Thread nD τ), .dma stSem) 0)
      ⊢ iprop((slotPts c k (recvF m c) ∗ (∃ f, vaPts c f) ∗ semVal ((c : Thread nD τ), .dma vaSem) 0 ∗ owesE c n ∗ vbPts c (halfOf k) (vbF m c (chunk c (hopOf k).val)) ∗ (∃ g, ⌜UpTo (halfOf k) 4 (outF m c) g ∧ ∀ b x y, b ≠ halfOf k → g (ix3 b x y) = g₀ (ix3 b x y)⌝ ∗ outPts c g ∗ (∃ w, vfPts c w) ∗ semVal ((c : Thread nD τ), .dma stSem) 0)
            -∗ wp frame (wpE (defs₀ (F := F)) 𝒱₀ (c : Thread nD τ) none) Set.univ (kk ⟨⟩) Q)
          -∗ wp frame (wpE (defs₀ (F := F)) 𝒱₀ (c : Thread nD τ) none) Set.univ (Scf.Loop.for k0_t6_loop k0_t6_ok ⟨⟩ (body6 (F := F) d0 v4 s x1 x2 x3) >>= kk) Q) := by
  iintro ⟨#Hlev, Hsl, Hva, Hs, HO, Hvb, Hx⟩ Hk
  iapply (Scf.wp_for_bind frame (wpE (defs₀ (F := F)) 𝒱₀ (c : Thread nD τ) none) Set.univ k0_t6_loop.lb k0_t6_loop.ub k0_t6_loop.st k0_t6_ok ⟨⟩ (body6 (F := F) d0 v4 s x1 x2 x3)
    (fun t _ => iprop(levAts L lv ∗ slotPts c k (recvF m c) ∗ (∃ f, vaPts c f) ∗ semVal ((c : Thread nD τ), .dma vaSem) 0 ∗ owesE c n ∗ vbPts c (halfOf k) (vbF m c (chunk c (hopOf k).val)) ∗ (∃ g, ⌜UpTo (halfOf k) t (outF m c) g ∧ ∀ b x y, b ≠ halfOf k → g (ix3 b x y) = g₀ (ix3 b x y)⌝ ∗ outPts c g ∗ (∃ w, vfPts c w) ∗ semVal ((c : Thread nD τ), .dma stSem) 0))) ?_) $$ [Hsl Hva Hs HO Hvb Hx]
  rotate_left
  · isplitr; · iexact Hlev
    isplitl [Hsl]; · iexact Hsl
    isplitl [Hva]; · iexact Hva
    isplitl [Hs]; · iexact Hs
    isplitl [HO]; · iexact HO
    isplitl [Hvb]; · iexact Hvb
    icases Hx with ⟨Hout, Hvf, Hst⟩
    iexists g₀
    isplitr; · ipureintro; exact ⟨UpTo.zero _ _ _, fun _ _ _ _ => rfl⟩
    isplitl [Hout]; · iexact Hout
    isplitl [Hvf]; · iexact Hvf
    iexact Hst
  · iintro %acc ⟨-, Hsl, Hva, Hs, HO, Hvb, ⟨%g, %hg, Hx⟩⟩
    iapply Hk
    isplitl [Hsl]; · iexact Hsl
    isplitl [Hva]; · iexact Hva
    isplitl [Hs]; · iexact Hs
    isplitl [HO]; · iexact HO
    isplitl [Hvb]; · iexact Hvb
    iexists g
    isplitr; · ipureintro; exact ⟨(show Scf.trips _ _ _ = 4 from trips6) ▸ hg.1, hg.2⟩
    iexact Hx
  · intro t acc
    have ht : t.val < 4 := Nat.lt_of_lt_of_eq t.isLt trips6
    iintro ⟨#Hlev, Hsl, Hva, Hs, HO, Hvb, ⟨%g, %hg, Hout, Hvf, Hst⟩⟩
    unfold body6 k0_t6_body
    rw [dif_neg (fun h => (cond1 s).mp h hs), dif_pos ((cond2 s).mpr hs)]
    simp only [Prog.lift, Prog.bind_op, Prog.bind_ret, Prog.pure_eq_ret]
    iapply (wp_tile m c k t.val ht n (k0_off15 s t) ((k0_off15_eq s t).trans (at4 _ (by omega) hk)) _) $$ [Hsl Hva Hs HO]
    · isplitr; · iexact Hlev
      isplitl [Hsl]; · iexact Hsl
      isplitl [Hva]; · iexact Hva
      isplitl [Hs]; · iexact Hs
      iexact HO
    iintro %va %hva ⟨Hsl, Hva, Hs, HO⟩
    iapply (wp_result m c k (by omega) t.val ht n (k0_off17 t) ((k0_off17_eq t).trans (at3 _ (by omega) hk)) _ (k0_off18 t) ((k0_off18_eq t).trans (at3 _ (by omega) hk)) _ _ hva (fun _ _ => rfl) hg.1) $$ [Hva Hvb Hvf Hout Hst HO]
    · isplitr; · iexact Hlev
      isplitl [Hva]; · iexact Hva
      isplitl [Hvb]; · iexact Hvb
      isplitl [Hvf]; · iexact Hvf
      isplitl [Hout]; · iexact Hout
      isplitl [Hst]; · iexact Hst
      iexact HO
    iintro %g' %hg' ⟨Hva, Hvb, Hvf, Hout, Hst, HO⟩
    rw [wp_ret]
    imodintro
    isplitr; · iexact Hlev
    isplitl [Hsl]; · iexact Hsl
    isplitl [Hva]; · iexists va; iexact Hva
    isplitl [Hs]; · iexact Hs
    isplitl [HO]; · iexact HO
    isplitl [Hvb]; · iexact Hvb
    iexists g'
    isplitr; · ipureintro; exact ⟨hg'.1, fun b x y hb => (hg'.2 b x y hb).trans (hg.2 b x y hb)⟩
    isplitl [Hout]; · iexact Hout
    isplitl [Hvf]; · iexact Hvf
    iexact Hst

theorem loop7_add (c : Dev nD) (k : Fin 14) (n : ℕ) (d0 : Dev nD) (v4 : BitVec 32) (s : Fin k0_t3_loop.trips) (x1 : BitVec 32) (x2 : BitVec 1) (x3 : BitVec 32) (hk : k.val = 2 * s.val + 1) (hs : s.val ≠ 6)
    {β : Type} {kk : Unit → Prog (TpuEff nD τ sig (Elt F) Λ₀ .tc) β} {Q : β → sProp 𝕄} :
    iprop(levAts L lv ∗ slotPts c k (recvF m c) ∗ (∃ f, vaPts c f) ∗ semVal ((c : Thread nD τ), .dma vaSem) 0 ∗ owesE c n ∗ vbPts c (halfOf k) (vbF m c (chunk c (hopOf k).val)) ∗ (∃ f, accPts c (halfOf k) f))
      ⊢ iprop((slotPts c k (recvF m c) ∗ (∃ f, vaPts c f) ∗ semVal ((c : Thread nD τ), .dma vaSem) 0 ∗ owesE c n ∗ vbPts c (halfOf k) (vbF m c (chunk c (hopOf k).val)) ∗ accPts c (halfOf k) (accF m c ((hopOf k).val + 1))
            -∗ wp frame (wpE (defs₀ (F := F)) 𝒱₀ (c : Thread nD τ) none) Set.univ (kk ⟨⟩) Q)
          -∗ wp frame (wpE (defs₀ (F := F)) 𝒱₀ (c : Thread nD τ) none) Set.univ (Scf.Loop.for k0_t7_loop k0_t7_ok ⟨⟩ (body7 (F := F) d0 v4 s x1 x2 x3) >>= kk) Q) := by
  iintro ⟨#Hlev, Hsl, Hva, Hs, HO, Hvb, Hx⟩ Hk
  iapply (Scf.wp_for_bind frame (wpE (defs₀ (F := F)) 𝒱₀ (c : Thread nD τ) none) Set.univ k0_t7_loop.lb k0_t7_loop.ub k0_t7_loop.st k0_t7_ok ⟨⟩ (body7 (F := F) d0 v4 s x1 x2 x3)
    (fun t _ => iprop(levAts L lv ∗ slotPts c k (recvF m c) ∗ (∃ f, vaPts c f) ∗ semVal ((c : Thread nD τ), .dma vaSem) 0 ∗ owesE c n ∗ vbPts c (halfOf k) (vbF m c (chunk c (hopOf k).val)) ∗ (∃ g, ⌜UpTo (halfOf k) t (accF m c ((hopOf k).val + 1)) g⌝ ∗ accPts c (halfOf k) g))) ?_) $$ [Hsl Hva Hs HO Hvb Hx]
  rotate_left
  · isplitr; · iexact Hlev
    isplitl [Hsl]; · iexact Hsl
    isplitl [Hva]; · iexact Hva
    isplitl [Hs]; · iexact Hs
    isplitl [HO]; · iexact HO
    isplitl [Hvb]; · iexact Hvb
    icases Hx with ⟨%f, Hx⟩
    iexists f
    isplitr; · ipureintro; exact UpTo.zero _ _ _
    iexact Hx
  · iintro %acc ⟨-, Hsl, Hva, Hs, HO, Hvb, ⟨%g, %hg, Hx⟩⟩
    iapply Hk
    isplitl [Hsl]; · iexact Hsl
    isplitl [Hva]; · iexact Hva
    isplitl [Hs]; · iexact Hs
    isplitl [HO]; · iexact HO
    isplitl [Hvb]; · iexact Hvb
    iapply (acc_done c (halfOf k) _ g ((show Scf.trips _ _ _ = 4 from trips7) ▸ hg)); iexact Hx
  · intro t acc
    have ht : t.val < 4 := Nat.lt_of_lt_of_eq t.isLt trips7
    iintro ⟨#Hlev, Hsl, Hva, Hs, HO, Hvb, ⟨%g, %hg, Hx⟩⟩
    unfold body7 k0_t7_body
    rw [dif_pos ((cond4 s).mpr hs), dif_neg (fun h => hs ((cond5 s).mp h))]
    simp only [Prog.lift, Prog.bind_op, Prog.bind_ret, Prog.pure_eq_ret]
    iapply (wp_tile m c k t.val ht n (k0_off22 s t) ((k0_off22_eq s t).trans (at4 _ (by omega) hk)) _) $$ [Hsl Hva Hs HO]
    · isplitr; · iexact Hlev
      isplitl [Hsl]; · iexact Hsl
      isplitl [Hva]; · iexact Hva
      isplitl [Hs]; · iexact Hs
      iexact HO
    iintro %va %hva ⟨Hsl, Hva, Hs, HO⟩
    iapply (wp_sum m c k t.val ht (k0_off23 t) ((k0_off23_eq t).trans (at3 _ (by omega) hk)) _ _ hva (fun _ _ => rfl) hg) $$ [Hva Hvb Hx]
    · isplitl [Hva]; · iexact Hva
      isplitl [Hvb]; · iexact Hvb
      iexact Hx
    iintro %g' %hg' ⟨Hva, Hvb, Hx⟩
    rw [wp_ret]
    imodintro
    isplitr; · iexact Hlev
    isplitl [Hsl]; · iexact Hsl
    isplitl [Hva]; · iexists va; iexact Hva
    isplitl [Hs]; · iexact Hs
    isplitl [HO]; · iexact HO
    isplitl [Hvb]; · iexact Hvb
    iexists g'
    isplitr; · ipureintro; exact hg'
    iexact Hx

theorem loop7_out (c : Dev nD) (k : Fin 14) (n : ℕ) (d0 : Dev nD) (v4 : BitVec 32) (s : Fin k0_t3_loop.trips) (x1 : BitVec 32) (x2 : BitVec 1) (x3 : BitVec 32) (hk : k.val = 2 * s.val + 1) (hs : s.val = 6) (g₀ : Vec F S2x512x8192 .f32)
    {β : Type} {kk : Unit → Prog (TpuEff nD τ sig (Elt F) Λ₀ .tc) β} {Q : β → sProp 𝕄} :
    iprop(levAts L lv ∗ slotPts c k (recvF m c) ∗ (∃ f, vaPts c f) ∗ semVal ((c : Thread nD τ), .dma vaSem) 0 ∗ owesE c n ∗ vbPts c (halfOf k) (vbF m c (chunk c (hopOf k).val)) ∗ outPts c g₀ ∗ (∃ w, vfPts c w) ∗ semVal ((c : Thread nD τ), .dma stSem) 0)
      ⊢ iprop((slotPts c k (recvF m c) ∗ (∃ f, vaPts c f) ∗ semVal ((c : Thread nD τ), .dma vaSem) 0 ∗ owesE c n ∗ vbPts c (halfOf k) (vbF m c (chunk c (hopOf k).val)) ∗ (∃ g, ⌜UpTo (halfOf k) 4 (outF m c) g ∧ ∀ b x y, b ≠ halfOf k → g (ix3 b x y) = g₀ (ix3 b x y)⌝ ∗ outPts c g ∗ (∃ w, vfPts c w) ∗ semVal ((c : Thread nD τ), .dma stSem) 0)
            -∗ wp frame (wpE (defs₀ (F := F)) 𝒱₀ (c : Thread nD τ) none) Set.univ (kk ⟨⟩) Q)
          -∗ wp frame (wpE (defs₀ (F := F)) 𝒱₀ (c : Thread nD τ) none) Set.univ (Scf.Loop.for k0_t7_loop k0_t7_ok ⟨⟩ (body7 (F := F) d0 v4 s x1 x2 x3) >>= kk) Q) := by
  iintro ⟨#Hlev, Hsl, Hva, Hs, HO, Hvb, Hx⟩ Hk
  iapply (Scf.wp_for_bind frame (wpE (defs₀ (F := F)) 𝒱₀ (c : Thread nD τ) none) Set.univ k0_t7_loop.lb k0_t7_loop.ub k0_t7_loop.st k0_t7_ok ⟨⟩ (body7 (F := F) d0 v4 s x1 x2 x3)
    (fun t _ => iprop(levAts L lv ∗ slotPts c k (recvF m c) ∗ (∃ f, vaPts c f) ∗ semVal ((c : Thread nD τ), .dma vaSem) 0 ∗ owesE c n ∗ vbPts c (halfOf k) (vbF m c (chunk c (hopOf k).val)) ∗ (∃ g, ⌜UpTo (halfOf k) t (outF m c) g ∧ ∀ b x y, b ≠ halfOf k → g (ix3 b x y) = g₀ (ix3 b x y)⌝ ∗ outPts c g ∗ (∃ w, vfPts c w) ∗ semVal ((c : Thread nD τ), .dma stSem) 0))) ?_) $$ [Hsl Hva Hs HO Hvb Hx]
  rotate_left
  · isplitr; · iexact Hlev
    isplitl [Hsl]; · iexact Hsl
    isplitl [Hva]; · iexact Hva
    isplitl [Hs]; · iexact Hs
    isplitl [HO]; · iexact HO
    isplitl [Hvb]; · iexact Hvb
    icases Hx with ⟨Hout, Hvf, Hst⟩
    iexists g₀
    isplitr; · ipureintro; exact ⟨UpTo.zero _ _ _, fun _ _ _ _ => rfl⟩
    isplitl [Hout]; · iexact Hout
    isplitl [Hvf]; · iexact Hvf
    iexact Hst
  · iintro %acc ⟨-, Hsl, Hva, Hs, HO, Hvb, ⟨%g, %hg, Hx⟩⟩
    iapply Hk
    isplitl [Hsl]; · iexact Hsl
    isplitl [Hva]; · iexact Hva
    isplitl [Hs]; · iexact Hs
    isplitl [HO]; · iexact HO
    isplitl [Hvb]; · iexact Hvb
    iexists g
    isplitr; · ipureintro; exact ⟨(show Scf.trips _ _ _ = 4 from trips7) ▸ hg.1, hg.2⟩
    iexact Hx
  · intro t acc
    have ht : t.val < 4 := Nat.lt_of_lt_of_eq t.isLt trips7
    iintro ⟨#Hlev, Hsl, Hva, Hs, HO, Hvb, ⟨%g, %hg, Hout, Hvf, Hst⟩⟩
    unfold body7 k0_t7_body
    rw [dif_neg (fun h => (cond4 s).mp h hs), dif_pos ((cond5 s).mpr hs)]
    simp only [Prog.lift, Prog.bind_op, Prog.bind_ret, Prog.pure_eq_ret]
    iapply (wp_tile m c k t.val ht n (k0_off22 s t) ((k0_off22_eq s t).trans (at4 _ (by omega) hk)) _) $$ [Hsl Hva Hs HO]
    · isplitr; · iexact Hlev
      isplitl [Hsl]; · iexact Hsl
      isplitl [Hva]; · iexact Hva
      isplitl [Hs]; · iexact Hs
      iexact HO
    iintro %va %hva ⟨Hsl, Hva, Hs, HO⟩
    iapply (wp_result m c k (by omega) t.val ht n (k0_off24 t) ((k0_off24_eq t).trans (at3 _ (by omega) hk)) _ (k0_off25 t) ((k0_off25_eq t).trans (at3 _ (by omega) hk)) _ _ hva (fun _ _ => rfl) hg.1) $$ [Hva Hvb Hvf Hout Hst HO]
    · isplitr; · iexact Hlev
      isplitl [Hva]; · iexact Hva
      isplitl [Hvb]; · iexact Hvb
      isplitl [Hvf]; · iexact Hvf
      isplitl [Hout]; · iexact Hout
      isplitl [Hst]; · iexact Hst
      iexact HO
    iintro %g' %hg' ⟨Hva, Hvb, Hvf, Hout, Hst, HO⟩
    rw [wp_ret]
    imodintro
    isplitr; · iexact Hlev
    isplitl [Hsl]; · iexact Hsl
    isplitl [Hva]; · iexists va; iexact Hva
    isplitl [Hs]; · iexact Hs
    isplitl [HO]; · iexact HO
    isplitl [Hvb]; · iexact Hvb
    iexists g'
    isplitr; · ipureintro; exact ⟨hg'.1, fun b x y hb => (hg'.2 b x y hb).trans (hg.2 b x y hb)⟩
    isplitl [Hout]; · iexact Hout
    isplitl [Hvf]; · iexact Hvf
    iexact Hst

end Cert.Proof.K

end
-- ==== Proof.Stretches.lean ====
/-
  A hop's three stretches: the operand chunk is fetched and half 0 of its product formed; half 1 formed and transfer
  `2 s` waited for; the two halves summed, each sent on as soon as it is summed.
-/
module

public import proofs.«01_k».proof.Proof.TileLoops

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]

local notation "𝕄" => MT nD τ sig Unit (Elt F) ℕ UU ℕ

variable (m : (ℓ : Loc nD τ sig) → Buf (Elt F) ℓ)

theorem oPts_split (c : Dev nD) : oPts m c fullShare ⊣⊢ iprop(oPts m c fullShare.left ∗ oPts m c fullShare.right) := by
  unfold oPts
  exact pointsTo_share (PosShare.mem_left_op_right _)

abbrev oSem0 (c : Dev nD) (b : Fin 2) : sProp 𝕄 := semVal ((c : Thread nD τ), .dma (oSem b)) 0
abbrev vaSem0 (c : Dev nD) : sProp 𝕄 := semVal ((c : Thread nD τ), .dma vaSem) 0
abbrev stSem0 (c : Dev nD) : sProp 𝕄 := semVal ((c : Thread nD τ), .dma stSem) 0

theorem sem_o0 (inb) (sq : (Rect.unit (s := S2) ![0] S1.size inb).shape.Squeezes S_) : ((cc0_scratch8.slice (Rect.unit (s := S2) ![0] S1.size inb)).squeeze S_ sq).sem = oSem 0 := sem_slice cc0_scratch8 ![0] inb sq 0 rfl
theorem sem_o1 (inb) (sq : (Rect.unit (s := S2) ![1] S1.size inb).shape.Squeezes S_) : ((cc0_scratch8.slice (Rect.unit (s := S2) ![1] S1.size inb)).squeeze S_ sq).sem = oSem 1 := sem_slice cc0_scratch8 ![1] inb sq 1 rfl
theorem sem_send (off : Fin 1 → ℕ) (inb) (sq : (Rect.unit (s := S14) off S1.size inb).shape.Squeezes S_) (k : Fin 14) (h : off = ![k.val]) :
    ((cc0_scratch6.slice (Rect.unit (s := S14) off S1.size inb)).squeeze S_ sq).sem = sendSem k := sem_slice cc0_scratch6 off inb sq k (by rw [h]; rfl)
theorem sem_recv (off : Fin 1 → ℕ) (inb) (sq : (Rect.unit (s := S14) off S1.size inb).shape.Squeezes S_) (k : Fin 14) (h : off = ![k.val]) :
    ((cc0_scratch7.slice (Rect.unit (s := S14) off S1.size inb)).squeeze S_ sq).sem = recvSem k := sem_slice cc0_scratch7 off inb sq k (by rw [h]; rfl)

/-- The chunk on its way into half 1, and half 0 of the product formed. -/
theorem part1_run (c : Dev nD) (n : ℕ) (v2 x1 x2 : BitVec 32) (s : Fin k0_t3_loop.trips)
    {Q : (Σ' (arg15 : BitVec 32), BitVec 1) → sProp 𝕄} :
    iprop(levAts L lv ∗ oPts m c fullShare ∗ (∃ f, ovPts c 0 f) ∗ (∃ f, ovPts c 1 f) ∗ oSem0 c 0 ∗ oSem0 c 1 ∗ wPts m c ∗ (∃ f, vbPts c 0 f) ∗ owesE c n)
      ⊢ iprop((∀ r, oPts m c fullShare.left ∗ ovPts c 0 (ovF m c (chunk c s.val)) ∗ oSem0 c 0 ∗ fetching m c 1 (chunk c s.val) fullShare.right
              ∗ wPts m c ∗ vbPts c 0 (vbF m c (chunk c s.val)) ∗ owesE c n -∗ Q r)
          -∗ wp frame (wpE (defs₀ (F := F)) 𝒱₀ (c : Thread nD τ) none) Set.univ (k0_part1 (F := F) (Memref.whole main_arg0) (Memref.isWhole_whole _) (Memref.whole main_arg1) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v2 x1 x2 s) Q) := by
  have e7 : k0_off7 c s = ![(0 : Fin 2).val, (chunk c s.val).val, 0, 0] := k0_off7_eq c s
  have e8 : k0_off8 c s = ![(1 : Fin 2).val, (chunk c s.val).val, 0, 0] := k0_off8_eq c s
  iintro ⟨#Hlev, Ho, Hv0, Hv1, Hs0, Hs1, Hw, Hb, HO⟩ Hk
  ihave Ho := (oPts_split m c).1 $$ Ho
  icases Ho with ⟨Hol, Hor⟩
  rw [k0_part1_eq_skeleton]
  unfold k0_part1_skel
  simp only [Prog.lift, Prog.bind_op, Prog.bind_ret, Prog.pure_eq_ret]
  iapply (wp_fetch m c 0 (chunk c s.val) fullShare.left (k0_off7 c s) e7 _ ![0, 0, 0] rfl _ _ (sem_o0 _ _)) $$ [Hol Hv0 Hs0]
  · isplitl [Hol]; · iexact Hol
    isplitl [Hv0]; · iexact Hv0
    iexact Hs0
  iintro Hf0
  iapply (wp_fetch m c 1 (chunk c s.val) fullShare.right (k0_off8 c s) e8 _ ![1, 0, 0] rfl _ _ (sem_o1 _ _)) $$ [Hor Hv1 Hs1]
  · isplitl [Hor]; · iexact Hor
    isplitl [Hv1]; · iexact Hv1
    iexact Hs1
  iintro Hf1
  iapply (wp_fetched m c 0 (chunk c s.val) fullShare.left n _ (sem_o0 _ _)) $$ [Hf0 HO]
  · isplitl [Hf0]; · iexact Hf0
    isplitl [HO]; · iexact HO
    iexact Hlev
  iintro ⟨Hol, Hv0, Hs0, HO⟩
  iapply (loop4 m c (chunk c s.val) c v2 x1 x2 s) $$ [Hv0 Hw Hb]
  · isplitl [Hv0]; · iexact Hv0
    isplitl [Hw]; · iexact Hw
    iexact Hb
  iintro ⟨Hv0, Hw, Hb⟩
  rw [wp_ret]
  imodintro
  iapply Hk
  isplitl [Hol]; · iexact Hol
  isplitl [Hv0]; · iexact Hv0
  isplitl [Hs0]; · iexact Hs0
  isplitl [Hf1]; · iexact Hf1
  isplitl [Hw]; · iexact Hw
  isplitl [Hb]; · iexact Hb
  iexact HO

/-- What device `c` needs to wait for transfer `k`'s landing, and for its read-out. -/
def WtR (c : Dev nD) (k : Fin 14) : sProp 𝕄 := iprop(cred (tallyAt (recvCell c k) () N) ∗ atPos ER (recvCell c k) 0 ∅ 0)
def WtS (c : Dev nD) (k : Fin 14) : sProp 𝕄 := atPos ER (sendCell c k) 0 ∅ 0
/-- What it needs to start transfer `k`. -/
def Sd (c : Dev nD) (k : Fin 14) : sProp 𝕄 :=
  iprop(dutyTok ER (sendCell c k) 0 () ∗ dutyTok ER (recvCell (nxt c) k) 0 () ∗ (∃ f, slotPts (F := F) (nxt c) k f))
/-- Transfer `k`'s two semaphores, back at zero. -/
def Dn (c : Dev nD) (k : Fin 14) : sProp 𝕄 := iprop(semVal (recvCell c k) 0 ∗ semVal (sendCell c k) 0)

/-- Both waits of transfer `k`. -/
theorem wp_both (K : RIx → ℕ) (c : Dev nD) (k : Fin 14) (n : ℕ) (hk : k.val + 1 ≤ n)
    {off : Fin 4 → ℕ} {inb} {off' : Fin 3 → ℕ} {inb'} (sR sS : DmaSem sig) (hR : sR = recvSem k) (hS : sS = sendSem k)
    {hsrc : (acV off' inb').view.WordExact} {hdst : (slotV off inb).view.WordExact}
    {hsrc' : (slotV off inb).view.WordExact} {hdst' : (acV off' inb').view.WordExact}
    {α : Type} {Q : α → sProp 𝕄} {kk : PUnit → Prog (TpuEff nD τ sig (Elt F) Λ₀ .tc) α} :
    iprop(records m K ∗ levAts L lv ∗ WtR c k ∗ WtS c k ∗ cred (tallyAt (sendCell c k) () N) ∗ owesE c n)
      ⊢ iprop((slotPts c k (recvF m c) ∗ accPts c (halfOf k) (accF m c (hopOf k).val) ∗ Dn c k ∗ owesE c n -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sR (acV off' inb') (slotV off inb) hsrc hdst) fun _ =>
              .op (.waitDma2 sS (slotV off inb) (acV off' inb') hsrc' hdst') kk) Q) := by
  unfold WtR WtS Dn
  iintro ⟨#HR, #Hlev, ⟨Hc, Hat⟩, Hat', Hc', HO⟩ Hk
  iapply (wp_recv m K c k n hk sR hR) $$ [Hc HO Hat]
  · isplitr; · iexact HR
    isplitr; · iexact Hlev
    isplitl [Hc]; · iexact Hc
    isplitl [HO]; · iexact HO
    iexact Hat
  iintro ⟨Hsl, Hz, HO⟩
  iapply (wp_sent m K c k n sS hS) $$ [Hc' HO Hat']
  · isplitr; · iexact HR
    isplitr; · iexact Hlev
    isplitl [Hc']; · iexact Hc'
    isplitl [HO]; · iexact HO
    iexact Hat'
  iintro ⟨Hac, Hz', HO⟩
  iapply Hk
  isplitl [Hsl]; · iexact Hsl
  isplitl [Hac]; · iexact Hac
  isplitl [Hz Hz']
  · isplitl [Hz]; · iexact Hz
    iexact Hz'
  iexact HO

/-- Half 1 of the product formed, and transfer `2 s` over. -/
theorem part2_run (K : RIx → ℕ) (c : Dev nD) (n : ℕ) (v4 x1 : BitVec 32) (s : Fin k0_t3_loop.trips) (k : Fin 14) (hk : k.val = 2 * s.val) (hn : k.val + 1 ≤ n)
    {Q : BitVec 32 → sProp 𝕄} :
    iprop(records m K ∗ levAts L lv ∗ oPts m c fullShare.left ∗ fetching m c 1 (chunk c s.val) fullShare.right ∗ wPts m c ∗ (∃ f, vbPts c 1 f)
        ∗ WtR c k ∗ WtS c k ∗ cred (tallyAt (sendCell c k) () N) ∗ owesE c n)
      ⊢ iprop((∀ r, oPts m c fullShare ∗ ovPts c 1 (ovF m c (chunk c s.val)) ∗ oSem0 c 1 ∗ wPts m c ∗ vbPts c 1 (vbF m c (chunk c s.val))
              ∗ slotPts c k (recvF m c) ∗ accPts c (halfOf k) (accF m c (hopOf k).val) ∗ Dn c k ∗ owesE c n -∗ Q r)
          -∗ wp frame (wpE (defs₀ (F := F)) 𝒱₀ (c : Thread nD τ) none) Set.univ (k0_part2 (F := F) (Memref.whole main_arg0) (Memref.isWhole_whole _) (Memref.whole main_arg1) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v4 s x1) Q) := by
  have e13 : k0_off13 s 0#32 = ![k.val] := by rw [hk]; exact k0_off13_eq s 0
  iintro ⟨#HR, #Hlev, Hol, Hf1, Hw, Hb, HwR, HwS, Hc, HO⟩ Hk
  rw [k0_part2_eq_skeleton]
  unfold k0_part2_skel
  simp only [Prog.lift, Prog.bind_op, Prog.bind_ret, Prog.pure_eq_ret]
  iapply (wp_fetched m c 1 (chunk c s.val) fullShare.right n _ (sem_o1 _ _)) $$ [Hf1 HO]
  · isplitl [Hf1]; · iexact Hf1
    isplitl [HO]; · iexact HO
    iexact Hlev
  iintro ⟨Hor, Hv1, Hs1, HO⟩
  iapply (loop5 m c (chunk c s.val) c v4 s x1) $$ [Hv1 Hw Hb]
  · isplitl [Hv1]; · iexact Hv1
    isplitl [Hw]; · iexact Hw
    iexact Hb
  iintro ⟨Hv1, Hw, Hb⟩
  iapply (wp_both m K c k n hn _ _ (sem_recv _ _ _ k e13) (sem_send _ _ _ k e13)) $$ [HwR HwS Hc HO]
  · isplitr; · iexact HR
    isplitr; · iexact Hlev
    isplitl [HwR]; · iexact HwR
    isplitl [HwS]; · iexact HwS
    isplitl [Hc]; · iexact Hc
    iexact HO
  iintro ⟨Hsl, Hac, Hd, HO⟩
  rw [wp_ret]
  imodintro
  iapply Hk
  isplitl [Hol Hor]
  · iapply (oPts_split m c).2
    isplitl [Hol]; · iexact Hol
    iexact Hor
  isplitl [Hv1]; · iexact Hv1
  isplitl [Hs1]; · iexact Hs1
  isplitl [Hw]; · iexact Hw
  isplitl [Hb]; · iexact Hb
  isplitl [Hsl]; · iexact Hsl
  isplitl [Hac]; · iexact Hac
  isplitl [Hd]; · iexact Hd
  iexact HO

theorem cond3 : ∀ s : Fin k0_t3_loop.trips, k0_cond3 s = 1#1 ↔ s.val ≠ 6 := by decide +kernel
theorem cond6 : ∀ s : Fin k0_t3_loop.trips, k0_cond6 s = 1#1 ↔ s.val ≠ 6 := by decide +kernel

/-- The sum that hop `s` leaves in a half is the next transfer's content. -/
theorem acc_next (c : Dev nD) (k k' : Fin 14) (h : k'.val = k.val + 2) :
    accPts c (halfOf k) (accF m c ((hopOf k).val + 1)) ⊢ accPts c (halfOf k') (accF m c (hopOf k').val) := by
  have h1 : halfOf k' = halfOf k := Fin.ext (by show k'.val % 2 = k.val % 2; omega)
  have h2 : (hopOf k').val = (hopOf k).val + 1 := by show k'.val / 2 = k.val / 2 + 1; omega
  rw [h1, h2]

/-- Not the last hop: each half is summed and sent on. -/
theorem part3_mid (K : RIx → ℕ) (c : Dev nD) (v4 x1 x3 : BitVec 32) (x2 : BitVec 1) (s : Fin k0_t3_loop.trips) (hs : s.val ≠ 6)
    (k k1 k2 k3 : Fin 14) (hk : k.val = 2 * s.val) (hk1 : k1.val = 2 * s.val + 1) (hk2 : k2.val = 2 * s.val + 2) (hk3 : k3.val = 2 * s.val + 3)
    {Q : PUnit → sProp 𝕄} :
    iprop(records m K ∗ levAts L lv ∗ slotPts c k (recvF m c) ∗ accPts c (halfOf k) (accF m c (hopOf k).val)
        ∗ vbPts c (halfOf k) (vbF m c (chunk c (hopOf k).val)) ∗ vbPts c (halfOf k1) (vbF m c (chunk c (hopOf k1).val))
        ∗ (∃ f, vaPts c f) ∗ vaSem0 c ∗ Sd c k2 ∗ WtR c k1 ∗ WtS c k1 ∗ cred (tallyAt (sendCell c k1) () N) ∗ Sd c k3 ∗ owesE c (2 * s.val + 2))
      ⊢ iprop((vbPts c (halfOf k) (vbF m c (chunk c (hopOf k).val)) ∗ vbPts c (halfOf k1) (vbF m c (chunk c (hopOf k1).val))
              ∗ (∃ f, vaPts c f) ∗ vaSem0 c ∗ cred (tallyAt (sendCell c k2) () N) ∗ Dn c k1 ∗ cred (tallyAt (sendCell c k3) () N) ∗ owesE c (2 * s.val + 4) -∗ Q ⟨⟩)
          -∗ wp frame (wpE (defs₀ (F := F)) 𝒱₀ (c : Thread nD τ) none) Set.univ (k0_part3 (F := F) (Memref.whole main_arg0) (Memref.isWhole_whole _) (Memref.whole main_arg1) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v4 s x1 x2 x3) Q) := by
  have e13 : k0_off13 s 1#32 = ![k1.val] := by rw [hk1]; exact k0_off13_eq s 1
  have e19 : k0_off19 s = ![k2.val] := by rw [hk2]; exact k0_off19_eq s
  have e26 : k0_off26 s = ![k3.val] := by rw [hk3]; exact k0_off26_eq s
  have e20 : k0_off20 s = ![k2.val / 2, k2.val % 2, 0, 0] := (k0_off20_eq s).trans (at4 0 (by omega) (by omega))
  have e27 : k0_off27 s = ![k3.val / 2, k3.val % 2, 0, 0] := (k0_off27_eq s).trans (at4 0 (by omega) (by omega))
  have a2 : (![0, 0, 0] : Fin 3 → ℕ) = ![k2.val % 2, 0, 0] := at3 (s := s.val + 1) (k := k2.val) 0 (by omega) (by omega)
  have a3 : (![1, 0, 0] : Fin 3 → ℕ) = ![k3.val % 2, 0, 0] := at3 (s := s.val + 1) (k := k3.val) 0 (by omega) (by omega)
  unfold Sd
  iintro ⟨#HR, #Hlev, Hsl, Hac, Hb0, Hb1, Hva, Hs, ⟨Ht2, Ht2', Hsl2⟩, HwR, HwS, Hc, ⟨Ht3, Ht3', Hsl3⟩, HO⟩ Hk
  rw [k0_part3_eq_skeleton]
  unfold k0_part3_skel
  rw [dif_pos ((cond3 s).mpr hs), dif_pos ((cond6 s).mpr hs)]
  simp only [Prog.lift, Prog.bind_op, Prog.bind_ret, Prog.pure_eq_ret]
  iapply (loop6_add m c k (2 * s.val + 2) c v4 s x1 x2 x3 hk hs) $$ [Hsl Hva Hs HO Hb0 Hac]
  · isplitr; · iexact Hlev
    isplitl [Hsl]; · iexact Hsl
    isplitl [Hva]; · iexact Hva
    isplitl [Hs]; · iexact Hs
    isplitl [HO]; · iexact HO
    isplitl [Hb0]; · iexact Hb0
    iexists _; iexact Hac
  iintro ⟨-, Hva, Hs, HO, Hb0, Hac⟩
  ihave Hac := (acc_next m c k k2 (by omega)) $$ Hac
  iapply (wp_send m K c _ (Fin.ext (k0_dev3_eq c)) k2 (k0_off20 s) e20 _ ![0, 0, 0] a2 _ _ _ (sem_send _ _ _ k2 e19) (sem_recv _ _ _ k2 e19)) $$ [Hac Hsl2 HO Ht2 Ht2']
  · isplitr; · iexact HR
    isplitl [Hac]; · iexact Hac
    isplitl [Hsl2]; · iexact Hsl2
    isplitl [HO]; · rw [hk2]; iexact HO
    isplitl [Ht2]; · iexact Ht2
    iexact Ht2'
  iintro ⟨Hc2, HO⟩
  iapply (wp_both m K c k1 (k2.val + 1) (by omega) _ _ (sem_recv _ _ _ k1 e13) (sem_send _ _ _ k1 e13)) $$ [HwR HwS Hc HO]
  · isplitr; · iexact HR
    isplitr; · iexact Hlev
    isplitl [HwR]; · iexact HwR
    isplitl [HwS]; · iexact HwS
    isplitl [Hc]; · iexact Hc
    iexact HO
  iintro ⟨Hsl, Hac, Hd, HO⟩
  iapply (loop7_add m c k1 (k2.val + 1) c v4 s x1 x2 x3 hk1 hs) $$ [Hsl Hva Hs HO Hb1 Hac]
  · isplitr; · iexact Hlev
    isplitl [Hsl]; · iexact Hsl
    isplitl [Hva]; · iexact Hva
    isplitl [Hs]; · iexact Hs
    isplitl [HO]; · iexact HO
    isplitl [Hb1]; · iexact Hb1
    iexists _; iexact Hac
  iintro ⟨-, Hva, Hs, HO, Hb1, Hac⟩
  ihave Hac := (acc_next m c k1 k3 (by omega)) $$ Hac
  iapply (wp_send m K c _ (Fin.ext (k0_dev4_eq c)) k3 (k0_off27 s) e27 _ ![1, 0, 0] a3 _ _ _ (sem_send _ _ _ k3 e26) (sem_recv _ _ _ k3 e26)) $$ [Hac Hsl3 HO Ht3 Ht3']
  · isplitr; · iexact HR
    isplitl [Hac]; · iexact Hac
    isplitl [Hsl3]; · iexact Hsl3
    isplitl [HO]; · rw [show k3.val = k2.val + 1 by omega]; iexact HO
    isplitl [Ht3]; · iexact Ht3
    iexact Ht3'
  iintro ⟨Hc3, HO⟩
  rw [wp_ret]
  imodintro
  iapply Hk
  isplitl [Hb0]; · iexact Hb0
  isplitl [Hb1]; · iexact Hb1
  isplitl [Hva]; · iexact Hva
  isplitl [Hs]; · iexact Hs
  isplitl [Hc2]; · iexact Hc2
  isplitl [Hd]; · iexact Hd
  isplitl [Hc3]; · iexact Hc3
  rw [show 2 * s.val + 4 = k3.val + 1 by omega]; iexact HO

/-- Once both halves are formed the result is. -/
theorem out_done (c : Dev nD) (k k1 : Fin 14) (h0 : halfOf k = 0) (h1 : halfOf k1 = 1) {g g' : Vec F S2x512x8192 .f32}
    (hg : UpTo (halfOf k) 4 (outF m c) g) (hg' : UpTo (halfOf k1) 4 (outF m c) g')
    (hkeep : ∀ b x y, b ≠ halfOf k1 → g' (ix3 b x y) = g (ix3 b x y)) : g' = outF m c := by
  rw [h0] at hg; rw [h1] at hg' hkeep
  funext i
  obtain ⟨b, x, y, rfl⟩ : ∃ (b : Fin 2) (x : Fin 512) (y : Fin 8192), i = ix3 b x y := ⟨i 0, i 1, i 2, eq_ix3 i⟩
  by_cases hb : b = 1
  · subst hb; exact hg' x y (by have := x.isLt; omega)
  · obtain rfl : b = 0 := by revert hb; revert b; decide
    exact (hkeep 0 x y hb).trans (hg x y (by have := x.isLt; omega))

/-- The last hop: each half's sum goes to the result. -/
theorem part3_last (K : RIx → ℕ) (c : Dev nD) (n : ℕ) (v4 x1 x3 : BitVec 32) (x2 : BitVec 1) (s : Fin k0_t3_loop.trips) (hs : s.val = 6)
    (k k1 : Fin 14) (hk : k.val = 2 * s.val) (hk1 : k1.val = 2 * s.val + 1) (hn : k1.val + 1 ≤ n)
    {Q : PUnit → sProp 𝕄} :
    iprop(records m K ∗ levAts L lv ∗ slotPts c k (recvF m c)
        ∗ vbPts c (halfOf k) (vbF m c (chunk c (hopOf k).val)) ∗ vbPts c (halfOf k1) (vbF m c (chunk c (hopOf k1).val))
        ∗ (∃ f, vaPts c f) ∗ vaSem0 c ∗ (∃ f, outPts c f) ∗ (∃ f, vfPts c f) ∗ stSem0 c ∗ WtR c k1 ∗ WtS c k1 ∗ cred (tallyAt (sendCell c k1) () N) ∗ owesE c n)
      ⊢ iprop((vbPts c (halfOf k) (vbF m c (chunk c (hopOf k).val)) ∗ vbPts c (halfOf k1) (vbF m c (chunk c (hopOf k1).val))
              ∗ (∃ f, vaPts c f) ∗ vaSem0 c ∗ outPts c (outF m c) ∗ (∃ f, vfPts c f) ∗ stSem0 c ∗ Dn c k1 ∗ accPts c (halfOf k1) (accF m c (hopOf k1).val) ∗ owesE c n -∗ Q ⟨⟩)
          -∗ wp frame (wpE (defs₀ (F := F)) 𝒱₀ (c : Thread nD τ) none) Set.univ (k0_part3 (F := F) (Memref.whole main_arg0) (Memref.isWhole_whole _) (Memref.whole main_arg1) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v4 s x1 x2 x3) Q) := by
  have e13 : k0_off13 s 1#32 = ![k1.val] := by rw [hk1]; exact k0_off13_eq s 1
  iintro ⟨#HR, #Hlev, Hsl, Hb0, Hb1, Hva, Hs, ⟨%f, Hout⟩, Hvf, Hst, HwR, HwS, Hc, HO⟩ Hk
  rw [k0_part3_eq_skeleton]
  unfold k0_part3_skel
  rw [dif_neg (fun h => (cond3 s).mp h hs), dif_neg (fun h => (cond6 s).mp h hs)]
  simp only [Prog.lift, Prog.bind_op, Prog.bind_ret, Prog.pure_eq_ret]
  iapply (loop6_out m c k n c v4 s x1 x2 x3 hk hs f) $$ [Hsl Hva Hs HO Hb0 Hout Hvf Hst]
  · isplitr; · iexact Hlev
    isplitl [Hsl]; · iexact Hsl
    isplitl [Hva]; · iexact Hva
    isplitl [Hs]; · iexact Hs
    isplitl [HO]; · iexact HO
    isplitl [Hb0]; · iexact Hb0
    isplitl [Hout]; · iexact Hout
    isplitl [Hvf]; · iexact Hvf
    iexact Hst
  iintro ⟨-, Hva, Hs, HO, Hb0, ⟨%g, %hg, Hout, Hvf, Hst⟩⟩
  iapply (wp_both m K c k1 n hn _ _ (sem_recv _ _ _ k1 e13) (sem_send _ _ _ k1 e13)) $$ [HwR HwS Hc HO]
  · isplitr; · iexact HR
    isplitr; · iexact Hlev
    isplitl [HwR]; · iexact HwR
    isplitl [HwS]; · iexact HwS
    isplitl [Hc]; · iexact Hc
    iexact HO
  iintro ⟨Hsl, Hac, Hd, HO⟩
  iapply (loop7_out m c k1 n c v4 s x1 x2 x3 hk1 hs g) $$ [Hsl Hva Hs HO Hb1 Hout Hvf Hst]
  · isplitr; · iexact Hlev
    isplitl [Hsl]; · iexact Hsl
    isplitl [Hva]; · iexact Hva
    isplitl [Hs]; · iexact Hs
    isplitl [HO]; · iexact HO
    isplitl [Hb1]; · iexact Hb1
    isplitl [Hout]; · iexact Hout
    isplitl [Hvf]; · iexact Hvf
    iexact Hst
  iintro ⟨-, Hva, Hs, HO, Hb1, ⟨%g', %hg', Hout, Hvf, Hst⟩⟩
  have he : g' = outF m c := out_done m c k k1 (Fin.ext (by show k.val % 2 = 0; omega)) (Fin.ext (by show k1.val % 2 = 1; omega)) hg.1 hg'.1 hg'.2
  rw [wp_ret]
  imodintro
  iapply Hk
  isplitl [Hb0]; · iexact Hb0
  isplitl [Hb1]; · iexact Hb1
  isplitl [Hva]; · iexact Hva
  isplitl [Hs]; · iexact Hs
  isplitl [Hout]; · rw [he]; iexact Hout
  isplitl [Hvf]; · iexact Hvf
  isplitl [Hst]; · iexact Hst
  isplitl [Hd]; · iexact Hd
  isplitl [Hac]; · iexact Hac
  iexact HO

end Cert.Proof.K

end
-- ==== Proof.Hop.lean ====
/-
  What a device holds between two hops, and that a hop keeps it.
-/
module

public import proofs.«01_k».proof.Proof.Stretches

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]

local notation "𝕄" => MT nD τ sig Unit (Elt F) ℕ UU ℕ

variable (m : (ℓ : Loc nD τ sig) → Buf (Elt F) ℓ)

/-! ## Families over the transfers -/

/-- The transfers from the `n`-th on, -/
def geS (n : ℕ) : Finset (Fin 14) := Finset.univ.filter fun k => n ≤ k.val
/-- and those before it. -/
def ltS (n : ℕ) : Finset (Fin 14) := Finset.univ.filter fun k => k.val < n

theorem geS_step (Φ : Fin 14 → sProp 𝕄) (k : Fin 14) : bigSep (geS k.val) Φ = iprop(Φ k ∗ bigSep (geS (k.val + 1)) Φ) := by
  have h : geS k.val = insert k (geS (k.val + 1)) := by
    ext j
    simp only [geS, Finset.mem_filter, Finset.mem_univ, true_and, Finset.mem_insert, Fin.ext_iff]
    omega
  rw [h]
  exact BI.bigSep_insert (by simp [geS])

theorem ltS_step (Φ : Fin 14 → sProp 𝕄) (k : Fin 14) : bigSep (ltS (k.val + 1)) Φ = iprop(Φ k ∗ bigSep (ltS k.val) Φ) := by
  have h : ltS (k.val + 1) = insert k (ltS k.val) := by
    ext j
    simp only [ltS, Finset.mem_filter, Finset.mem_univ, true_and, Finset.mem_insert, Fin.ext_iff]
    omega
  rw [h]
  exact BI.bigSep_insert (by simp [ltS])

theorem geS_take (Φ : Fin 14 → sProp 𝕄) (n : ℕ) (k k' : Fin 14) (hk : k.val = n) (hk' : k'.val = n + 1) :
    bigSep (geS n) Φ ⊢ iprop(Φ k ∗ Φ k' ∗ bigSep (geS (n + 2)) Φ) := by
  subst hk
  rw [geS_step Φ k, ← hk', geS_step Φ k', hk']
theorem ltS_give (Φ : Fin 14 → sProp 𝕄) (n : ℕ) (k k' : Fin 14) (hk : k.val = n) (hk' : k'.val = n + 1) :
    iprop(Φ k ∗ Φ k' ∗ bigSep (ltS n) Φ) ⊢ bigSep (ltS (n + 2)) Φ := by
  subst hk
  rw [show k.val + 2 = k'.val + 1 by omega, ltS_step Φ k', hk', ltS_step Φ k]
  iintro ⟨Ha, Hb, Hc⟩
  isplitl [Hb]; · iexact Hb
  isplitl [Ha]; · iexact Ha
  iexact Hc

theorem geS_zero : geS 0 = Finset.univ := by ext j; simp [geS]
theorem ltS_all : ltS 14 = Finset.univ := by ext j; simp [ltS, j.isLt]
theorem ltS_zero (Φ : Fin 14 → sProp 𝕄) : (iprop(emp) : sProp 𝕄) ⊢ bigSep (ltS 0) Φ := by
  have h : ltS 0 = ∅ := by ext j; simp [ltS]
  rw [h, BI.bigSep_empty]
  exact Entails.rfl

theorem owedFrom_end (c : Dev nD) (n : ℕ) (h : 14 ≤ n) : owedFrom c n = 0 := by
  unfold owedFrom
  refine Finset.sum_eq_zero fun j hj => ?_
  have := (Finset.mem_filter.mp hj).2
  omega

theorem owesE_end (c : Dev nD) : owesE (F := F) c 14 ⊢ owesE c 16 := by
  unfold owesE
  rw [owedFrom_end c 14 le_rfl, owedFrom_end c 16 (by omega)]

/-! ## Between two hops -/

/-- What device `c` needs for both waits of transfer `k`. -/
def Wt (c : Dev nD) (k : Fin 14) : sProp 𝕄 := iprop(WtR c k ∗ WtS c k)

/-- While transfer `n` is under way its half is lent to it, for a credit; after the last the half is back. -/
def credOr (c : Dev nD) (b : Fin 2) (n : ℕ) : sProp 𝕄 :=
  if h : n < 14 then cred (tallyAt (sendCell c ⟨n, h⟩) () N) else iprop(∃ f, accPts (F := F) c b f)

theorem credOr_at (c : Dev nD) (b : Fin 2) (n : ℕ) (k : Fin 14) (h : k.val = n) :
    credOr (F := F) c b n = cred (tallyAt (sendCell c k) () N) := by
  subst h
  unfold credOr
  rw [dif_pos k.isLt]

/-- The result, formed once all seven hops are over. -/
def outOk (c : Dev nD) (s : ℕ) : sProp 𝕄 := iprop(∃ f, ⌜s = 7 → f = outF m c⌝ ∗ outPts c f)

/-- What no hop changes the ownership of. -/
def still (c : Dev nD) : sProp 𝕄 :=
  iprop(oPts m c fullShare ∗ wPts m c ∗ (∃ f, ovPts c 0 f) ∗ (∃ f, ovPts c 1 f) ∗ (∃ f, vbPts c 0 f) ∗ (∃ f, vbPts c 1 f)
    ∗ (∃ f, vaPts c f) ∗ (∃ f, vfPts c f) ∗ oSem0 c 0 ∗ oSem0 c 1 ∗ vaSem0 c ∗ stSem0 c)

/-- Before hop `s`: transfers `2 s` and `2 s + 1` are started and not waited for. -/
def hopI (c : Dev nD) (s : ℕ) : sProp 𝕄 :=
  iprop(still m c ∗ outOk m c s ∗ owesE c (2 * s + 2) ∗ bigSep (geS (2 * s)) (Wt c) ∗ bigSep (geS (2 * s + 2)) (Sd c)
    ∗ bigSep (ltS (2 * s)) (Dn c) ∗ credOr c 0 (2 * s) ∗ credOr c 1 (2 * s + 1))

theorem trips3 : k0_t3_loop.trips = 7 := by decide

theorem hop_mid (K : RIx → ℕ) (c : Dev nD) (v2 v4 : BitVec 32) (s : Fin k0_t3_loop.trips) (hs : s.val ≠ 6) :
    iprop(records m K ∗ levAts L lv ∗ hopI m c s.val)
      ⊢ wp frame (wpE (defs₀ (F := F)) 𝒱₀ (c : Thread nD τ) none) Set.univ (k0_t3_body (F := F) (Memref.whole main_arg0) (Memref.isWhole_whole _) (Memref.whole main_arg1) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v2 v4 s ()) (fun _ => iprop(records m K ∗ levAts L lv ∗ hopI m c (s.val + 1))) := by
  have h7 : s.val < 7 := Nat.lt_of_lt_of_eq s.isLt trips3
  obtain ⟨k, hk⟩ : ∃ k : Fin 14, k.val = 2 * s.val := ⟨⟨2 * s.val, by omega⟩, rfl⟩
  obtain ⟨k1, hk1⟩ : ∃ k : Fin 14, k.val = 2 * s.val + 1 := ⟨⟨2 * s.val + 1, by omega⟩, rfl⟩
  obtain ⟨k2, hk2⟩ : ∃ k : Fin 14, k.val = 2 * s.val + 2 := ⟨⟨2 * s.val + 2, by omega⟩, rfl⟩
  obtain ⟨k3, hk3⟩ : ∃ k : Fin 14, k.val = 2 * s.val + 3 := ⟨⟨2 * s.val + 3, by omega⟩, rfl⟩
  have b0 : halfOf k = 0 := Fin.ext (by show k.val % 2 = 0; omega)
  have b1 : halfOf k1 = 1 := Fin.ext (by show k1.val % 2 = 1; omega)
  have s0 : (hopOf k).val = s.val := by show k.val / 2 = s.val; omega
  have s1 : (hopOf k1).val = s.val := by show k1.val / 2 = s.val; omega
  have c0 : (credOr (F := F) c 0 (2 * s.val)) = cred (tallyAt (sendCell c k) () N) := by
    exact credOr_at c 0 _ k hk
  have c1 : (credOr (F := F) c 1 (2 * s.val + 1)) = cred (tallyAt (sendCell c k1) () N) := by
    exact credOr_at c 1 _ k1 hk1
  have c2 : (credOr (F := F) c 0 (2 * (s.val + 1))) = cred (tallyAt (sendCell c k2) () N) := by
    exact credOr_at c 0 _ k2 (by omega)
  have c3 : (credOr (F := F) c 1 (2 * (s.val + 1) + 1)) = cred (tallyAt (sendCell c k3) () N) := by
    exact credOr_at c 1 _ k3 (by omega)
  unfold k0_t3_body hopI still outOk
  rw [c0, c1, c2, c3]
  iintro ⟨#HR, #Hlev, ⟨Ho, Hw, Hv0, Hv1, Hb0, Hb1, Hva, Hvf, Hs0, Hs1, Hsa, Hst⟩, ⟨%fo, %hfo, Hout⟩, HO, HW, HS, HD, Hc0, Hc1⟩
  ihave HW := (geS_take (Wt c) (2 * s.val) k k1 hk hk1) $$ HW
  icases HW with ⟨HW0, HW1, HW⟩
  unfold Wt
  icases HW0 with ⟨HW0, HW0'⟩
  icases HW1 with ⟨HW1, HW1'⟩
  ihave HS := (geS_take (Sd c) (2 * s.val + 2) k2 k3 hk2 hk3) $$ HS
  icases HS with ⟨HS2, HS3, HS⟩
  rw [wp_bind]
  iapply (part1_run m c (2 * s.val + 2) v2 0#32 1#32 s) $$ [Ho Hv0 Hv1 Hs0 Hs1 Hw Hb0 HO]
  · isplitr; · iexact Hlev
    isplitl [Ho]; · iexact Ho
    isplitl [Hv0]; · iexact Hv0
    isplitl [Hv1]; · iexact Hv1
    isplitl [Hs0]; · iexact Hs0
    isplitl [Hs1]; · iexact Hs1
    isplitl [Hw]; · iexact Hw
    isplitl [Hb0]; · iexact Hb0
    iexact HO
  iintro %r ⟨Hol, Hv0, Hs0, Hf1, Hw, Hb0, HO⟩
  rw [wp_bind]
  iapply (part2_run m K c (2 * s.val + 2) v4 r.1 s k hk (by omega)) $$ [Hol Hf1 Hw Hb1 HW0 HW0' Hc0 HO]
  · isplitr; · iexact HR
    isplitr; · iexact Hlev
    isplitl [Hol]; · iexact Hol
    isplitl [Hf1]; · iexact Hf1
    isplitl [Hw]; · iexact Hw
    isplitl [Hb1]; · iexact Hb1
    isplitl [HW0]; · iexact HW0
    isplitl [HW0']; · iexact HW0'
    isplitl [Hc0]; · iexact Hc0
    iexact HO
  iintro %r' ⟨Ho, Hv1, Hs1, Hw, Hb1, Hsl, Hac, Hd0, HO⟩
  rw [wp_bind]
  iapply (part3_mid m K c v4 r.1 r' r.2 s hs k k1 k2 k3 hk hk1 hk2 hk3) $$ [Hsl Hac Hb0 Hb1 Hva Hsa HS2 HW1 HW1' Hc1 HS3 HO]
  · isplitr; · iexact HR
    isplitr; · iexact Hlev
    isplitl [Hsl]; · iexact Hsl
    isplitl [Hac]; · iexact Hac
    isplitl [Hb0]; · rw [b0, s0]; iexact Hb0
    isplitl [Hb1]; · rw [b1, s1]; iexact Hb1
    isplitl [Hva]; · iexact Hva
    isplitl [Hsa]; · iexact Hsa
    isplitl [HS2]; · iexact HS2
    isplitl [HW1]; · iexact HW1
    isplitl [HW1']; · iexact HW1'
    isplitl [Hc1]; · iexact Hc1
    isplitl [HS3]; · iexact HS3
    iexact HO
  rw [b0, b1]
  iintro ⟨Hb0, Hb1, Hva, Hsa, Hc2, Hd1, Hc3, HO⟩
  rw [Prog.pure_eq_ret, wp_ret]
  imodintro
  isplitr; · iexact HR
  isplitr; · iexact Hlev
  isplitl [Ho Hw Hv0 Hv1 Hb0 Hb1 Hva Hvf Hs0 Hs1 Hsa Hst]
  · isplitl [Ho]; · iexact Ho
    isplitl [Hw]; · iexact Hw
    isplitl [Hv0]; · iexists _; iexact Hv0
    isplitl [Hv1]; · iexists _; iexact Hv1
    isplitl [Hb0]; · iexists _; iexact Hb0
    isplitl [Hb1]; · iexists _; iexact Hb1
    isplitl [Hva]; · iexact Hva
    isplitl [Hvf]; · iexact Hvf
    isplitl [Hs0]; · iexact Hs0
    isplitl [Hs1]; · iexact Hs1
    isplitl [Hsa]; · iexact Hsa
    iexact Hst
  isplitl [Hout]
  · iexists fo
    isplitr; · ipureintro; intro h; omega
    iexact Hout
  isplitl [HO]; · rw [show 2 * (s.val + 1) + 2 = 2 * s.val + 4 by ring]; iexact HO
  isplitl [HW]; · rw [show 2 * (s.val + 1) = 2 * s.val + 2 by ring]; iexact HW
  isplitl [HS]; · rw [show 2 * (s.val + 1) + 2 = 2 * s.val + 2 + 2 by ring]; iexact HS
  isplitl [HD Hd0 Hd1]
  · rw [show 2 * (s.val + 1) = 2 * s.val + 2 by ring]
    iapply (ltS_give (Dn c) (2 * s.val) k k1 hk hk1)
    isplitl [Hd0]; · iexact Hd0
    isplitl [Hd1]; · iexact Hd1
    iexact HD
  isplitl [Hc2]; · iexact Hc2
  iexact Hc3

theorem geS_take1 (Φ : Fin 14 → sProp 𝕄) (n : ℕ) (hn : 14 ≤ n) (n' : ℕ) (h : 14 ≤ n') : bigSep (geS n) Φ ⊢ bigSep (geS n') Φ := by
  have h1 : geS n = ∅ := by ext j; simp [geS]; omega
  have h2 : geS n' = ∅ := by ext j; simp [geS]; omega
  rw [h1, h2]

theorem hop_last (K : RIx → ℕ) (c : Dev nD) (v2 v4 : BitVec 32) (s : Fin k0_t3_loop.trips) (hs : s.val = 6) :
    iprop(records m K ∗ levAts L lv ∗ hopI m c s.val)
      ⊢ wp frame (wpE (defs₀ (F := F)) 𝒱₀ (c : Thread nD τ) none) Set.univ (k0_t3_body (F := F) (Memref.whole main_arg0) (Memref.isWhole_whole _) (Memref.whole main_arg1) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v2 v4 s ()) (fun _ => iprop(records m K ∗ levAts L lv ∗ hopI m c (s.val + 1))) := by
  obtain ⟨k, hk⟩ : ∃ k : Fin 14, k.val = 2 * s.val := ⟨⟨2 * s.val, by omega⟩, rfl⟩
  obtain ⟨k1, hk1⟩ : ∃ k : Fin 14, k.val = 2 * s.val + 1 := ⟨⟨2 * s.val + 1, by omega⟩, rfl⟩
  have b0 : halfOf k = 0 := Fin.ext (by show k.val % 2 = 0; omega)
  have b1 : halfOf k1 = 1 := Fin.ext (by show k1.val % 2 = 1; omega)
  have s0 : (hopOf k).val = s.val := by show k.val / 2 = s.val; omega
  have s1 : (hopOf k1).val = s.val := by show k1.val / 2 = s.val; omega
  have c0 : (credOr (F := F) c 0 (2 * s.val)) = cred (tallyAt (sendCell c k) () N) := by
    exact credOr_at c 0 _ k hk
  have c1 : (credOr (F := F) c 1 (2 * s.val + 1)) = cred (tallyAt (sendCell c k1) () N) := by
    exact credOr_at c 1 _ k1 hk1
  have c2 : (credOr (F := F) c 0 (2 * (s.val + 1))) = iprop(∃ f, accPts (F := F) c 0 f) := by
    unfold credOr; rw [dif_neg (by omega)]
  have c3 : (credOr (F := F) c 1 (2 * (s.val + 1) + 1)) = iprop(∃ f, accPts (F := F) c 1 f) := by
    unfold credOr; rw [dif_neg (by omega)]
  unfold k0_t3_body hopI still outOk
  rw [c0, c1, c2, c3]
  iintro ⟨#HR, #Hlev, ⟨Ho, Hw, Hv0, Hv1, Hb0, Hb1, Hva, Hvf, Hs0, Hs1, Hsa, Hst⟩, ⟨%fo, %hfo, Hout⟩, HO, HW, HS, HD, Hc0, Hc1⟩
  ihave HW := (geS_take (Wt c) (2 * s.val) k k1 hk hk1) $$ HW
  icases HW with ⟨HW0, HW1, HW⟩
  unfold Wt
  icases HW0 with ⟨HW0, HW0'⟩
  icases HW1 with ⟨HW1, HW1'⟩
  rw [wp_bind]
  iapply (part1_run m c (2 * s.val + 2) v2 0#32 1#32 s) $$ [Ho Hv0 Hv1 Hs0 Hs1 Hw Hb0 HO]
  · isplitr; · iexact Hlev
    isplitl [Ho]; · iexact Ho
    isplitl [Hv0]; · iexact Hv0
    isplitl [Hv1]; · iexact Hv1
    isplitl [Hs0]; · iexact Hs0
    isplitl [Hs1]; · iexact Hs1
    isplitl [Hw]; · iexact Hw
    isplitl [Hb0]; · iexact Hb0
    iexact HO
  iintro %r ⟨Hol, Hv0, Hs0, Hf1, Hw, Hb0, HO⟩
  rw [wp_bind]
  iapply (part2_run m K c (2 * s.val + 2) v4 r.1 s k hk (by omega)) $$ [Hol Hf1 Hw Hb1 HW0 HW0' Hc0 HO]
  · isplitr; · iexact HR
    isplitr; · iexact Hlev
    isplitl [Hol]; · iexact Hol
    isplitl [Hf1]; · iexact Hf1
    isplitl [Hw]; · iexact Hw
    isplitl [Hb1]; · iexact Hb1
    isplitl [HW0]; · iexact HW0
    isplitl [HW0']; · iexact HW0'
    isplitl [Hc0]; · iexact Hc0
    iexact HO
  iintro %r' ⟨Ho, Hv1, Hs1, Hw, Hb1, Hsl, Hac, Hd0, HO⟩
  rw [wp_bind]
  iapply (part3_last m K c (2 * s.val + 2) v4 r.1 r' r.2 s hs k k1 hk hk1 (by omega)) $$ [Hsl Hb0 Hb1 Hva Hsa Hout Hvf Hst HW1 HW1' Hc1 HO]
  · isplitr; · iexact HR
    isplitr; · iexact Hlev
    isplitl [Hsl]; · iexact Hsl
    isplitl [Hb0]; · rw [b0, s0]; iexact Hb0
    isplitl [Hb1]; · rw [b1, s1]; iexact Hb1
    isplitl [Hva]; · iexact Hva
    isplitl [Hsa]; · iexact Hsa
    isplitl [Hout]; · iexists fo; iexact Hout
    isplitl [Hvf]; · iexact Hvf
    isplitl [Hst]; · iexact Hst
    isplitl [HW1]; · iexact HW1
    isplitl [HW1']; · iexact HW1'
    isplitl [Hc1]; · iexact Hc1
    iexact HO
  rw [b0, b1]
  iintro ⟨Hb0, Hb1, Hva, Hsa, Hout, Hvf, Hst, Hd1, Hac1, HO⟩
  rw [Prog.pure_eq_ret, wp_ret]
  imodintro
  isplitr; · iexact HR
  isplitr; · iexact Hlev
  isplitl [Ho Hw Hv0 Hv1 Hb0 Hb1 Hva Hvf Hs0 Hs1 Hsa Hst]
  · isplitl [Ho]; · iexact Ho
    isplitl [Hw]; · iexact Hw
    isplitl [Hv0]; · iexists _; iexact Hv0
    isplitl [Hv1]; · iexists _; iexact Hv1
    isplitl [Hb0]; · iexists _; iexact Hb0
    isplitl [Hb1]; · iexists _; iexact Hb1
    isplitl [Hva]; · iexact Hva
    isplitl [Hvf]; · iexact Hvf
    isplitl [Hs0]; · iexact Hs0
    isplitl [Hs1]; · iexact Hs1
    isplitl [Hsa]; · iexact Hsa
    iexact Hst
  isplitl [Hout]
  · iexists _
    isplitr; · ipureintro; intro h; rfl
    iexact Hout
  isplitl [HO]
  · rw [show 2 * (s.val + 1) + 2 = 16 by omega, show 2 * s.val + 2 = 14 by omega]
    iapply (owesE_end c); iexact HO
  isplitl [HW]; · rw [show 2 * (s.val + 1) = 2 * s.val + 2 by ring]; iexact HW
  isplitl [HS]; · iapply (geS_take1 (Sd c) (2 * s.val + 2) (by omega) _ (by omega)); iexact HS
  isplitl [HD Hd0 Hd1]
  · rw [show 2 * (s.val + 1) = 2 * s.val + 2 by ring]
    iapply (ltS_give (Dn c) (2 * s.val) k k1 hk hk1)
    isplitl [Hd0]; · iexact Hd0
    isplitl [Hd1]; · iexact Hd1
    iexact HD
  isplitl [Hac]; · iexists _; iexact Hac
  iexists _; iexact Hac1

theorem hop (K : RIx → ℕ) (c : Dev nD) (v2 v4 : BitVec 32) (s : Fin k0_t3_loop.trips) :
    iprop(records m K ∗ levAts L lv ∗ hopI m c s.val)
      ⊢ wp frame (wpE (defs₀ (F := F)) 𝒱₀ (c : Thread nD τ) none) Set.univ (k0_t3_body (F := F) (Memref.whole main_arg0) (Memref.isWhole_whole _) (Memref.whole main_arg1) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v2 v4 s ()) (fun _ => iprop(records m K ∗ levAts L lv ∗ hopI m c (s.val + 1))) := by
  by_cases hs : s.val = 6
  · exact hop_last m K c v2 v4 s hs
  · exact hop_mid m K c v2 v4 s hs

end Cert.Proof.K

end
-- ==== Proof.Body.lean ====
/-
  The whole of a device's program: the first products, sent on, and then the seven hops.
-/
module

public import proofs.«01_k».proof.Proof.Hop

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]

local notation "𝕄" => MT nD τ sig Unit (Elt F) ℕ UU ℕ

variable (m : (ℓ : Loc nD τ sig) → Buf (Elt F) ℓ)

/-- What a device starts from, -/
def bodyI (c : Dev nD) : sProp 𝕄 :=
  iprop(oPts m c fullShare ∗ wSrc m c ∗ wAny c ∗ (∃ f, ovPts c 0 f) ∗ (∃ f, ovPts c 1 f) ∗ (∃ f, vbPts c 0 f) ∗ (∃ f, vbPts c 1 f)
    ∗ (∃ f, accPts c 0 f) ∗ (∃ f, accPts c 1 f) ∗ (∃ f, vaPts c f) ∗ (∃ f, vfPts c f) ∗ oSem0 c 0 ∗ oSem0 c 1 ∗ vaSem0 c ∗ stSem0 c
    ∗ (∃ f, outPts c f) ∗ owesE c 0 ∗ bigSep Finset.univ (Wt c) ∗ bigSep Finset.univ (Sd c))
/-- and what it is left with. -/
def bodyO (c : Dev nD) : sProp 𝕄 :=
  iprop(still m c ∗ wSrc m c ∗ outPts c (outF m c) ∗ owesE c 16 ∗ bigSep Finset.univ (Dn c) ∗ (∃ f, accPts c 0 f) ∗ (∃ f, accPts c 1 f))

theorem credOr_back (c : Dev nD) (b : Fin 2) (n : ℕ) (h : 14 ≤ n) : credOr (F := F) c b n ⊢ iprop(∃ f, accPts (F := F) c b f) := by
  unfold credOr
  rw [dif_neg (by omega)]

theorem part4_run (c : Dev nD) (n : ℕ)
    {Q : (Σ' (d0 : Dev nD) (v2 : BitVec 32), BitVec 32) → sProp 𝕄} :
    iprop(levAts L lv ∗ oPts m c fullShare ∗ wSrc m c ∗ wAny c ∗ (∃ f, ovPts c 0 f) ∗ (∃ f, ovPts c 1 f) ∗ oSem0 c 0 ∗ oSem0 c 1 ∗ vaSem0 c ∗ owesE c n)
      ⊢ iprop((∀ v2 v4, oPts m c fullShare.left ∗ ovPts c 0 (ovF m c (chunk0 c)) ∗ oSem0 c 0 ∗ fetching m c 1 (chunk0 c) fullShare.right
              ∗ wSrc m c ∗ wPts m c ∗ vaSem0 c ∗ owesE c n -∗ Q ⟨c, v2, v4⟩)
          -∗ wp frame (wpE (defs₀ (F := F)) 𝒱₀ (c : Thread nD τ) none) Set.univ (k0_part4 (F := F) (Memref.whole main_arg0) (Memref.isWhole_whole _) (Memref.whole main_arg1) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) Q) := by
  have e1 : k0_off1 c = ![(0 : Fin 2).val, (chunk0 c).val, 0, 0] := k0_off1_eq c
  have e2 : k0_off2 c = ![(1 : Fin 2).val, (chunk0 c).val, 0, 0] := k0_off2_eq c
  iintro ⟨#Hlev, Ho, Hws, Hwa, Hv0, Hv1, Hs0, Hs1, Hsa, HO⟩ Hk
  ihave Ho := (oPts_split m c).1 $$ Ho
  icases Ho with ⟨Hol, Hor⟩
  rw [k0_part4_eq_skeleton]
  unfold k0_part4_skel
  simp only [Prog.lift, Prog.bind_op, Prog.bind_ret, Prog.pure_eq_ret]
  rw [wp_deviceId]
  iapply (wp_fetchW m c) $$ [Hws Hwa Hsa]
  · isplitl [Hws]; · iexact Hws
    isplitl [Hwa]; · iexact Hwa
    iexact Hsa
  iintro HfW
  iapply (wp_fetch m c 0 (chunk0 c) fullShare.left (k0_off1 c) e1 _ ![0, 0, 0] rfl _ _ (sem_o0 _ _)) $$ [Hol Hv0 Hs0]
  · isplitl [Hol]; · iexact Hol
    isplitl [Hv0]; · iexact Hv0
    iexact Hs0
  iintro Hf0
  iapply (wp_fetch m c 1 (chunk0 c) fullShare.right (k0_off2 c) e2 _ ![1, 0, 0] rfl _ _ (sem_o1 _ _)) $$ [Hor Hv1 Hs1]
  · isplitl [Hor]; · iexact Hor
    isplitl [Hv1]; · iexact Hv1
    iexact Hs1
  iintro Hf1
  iapply (wp_fetchedW m c n) $$ [HfW HO]
  · isplitl [HfW]; · iexact HfW
    isplitl [HO]; · iexact HO
    iexact Hlev
  iintro ⟨Hws, Hw, Hsa, HO⟩
  iapply (wp_fetched m c 0 (chunk0 c) fullShare.left n _ (sem_o0 _ _)) $$ [Hf0 HO]
  · isplitl [Hf0]; · iexact Hf0
    isplitl [HO]; · iexact HO
    iexact Hlev
  iintro ⟨Hol, Hv0, Hs0, HO⟩
  rw [wp_ret]
  imodintro
  iapply Hk
  isplitl [Hol]; · iexact Hol
  isplitl [Hv0]; · iexact Hv0
  isplitl [Hs0]; · iexact Hs0
  isplitl [Hf1]; · iexact Hf1
  isplitl [Hws]; · iexact Hws
  isplitl [Hw]; · iexact Hw
  isplitl [Hsa]; · iexact Hsa
  iexact HO

theorem part5_run (K : RIx → ℕ) (c : Dev nD) (v4 : BitVec 32) {Q : PUnit → sProp 𝕄} :
    iprop(records m K ∗ levAts L lv ∗ oPts m c fullShare.left ∗ ovPts c 0 (ovF m c (chunk0 c)) ∗ fetching m c 1 (chunk0 c) fullShare.right
        ∗ wPts m c ∗ (∃ f, accPts c 0 f) ∗ (∃ f, accPts c 1 f) ∗ Sd c 0 ∗ owesE c 0)
      ⊢ iprop((oPts m c fullShare ∗ ovPts c 0 (ovF m c (chunk0 c)) ∗ ovPts c 1 (ovF m c (chunk0 c)) ∗ oSem0 c 1
              ∗ wPts m c ∗ accPts c 1 (vbF m c (chunk0 c)) ∗ cred (tallyAt (sendCell c 0) () N) ∗ owesE c 1 -∗ Q ⟨⟩)
          -∗ wp frame (wpE (defs₀ (F := F)) 𝒱₀ (c : Thread nD τ) none) Set.univ (k0_part5 (F := F) (Memref.whole main_arg0) (Memref.isWhole_whole _) (Memref.whole main_arg1) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v4) Q) := by
  unfold Sd
  iintro ⟨#HR, #Hlev, Hol, Hv0, Hf1, Hw, Ha0, Ha1, ⟨Ht, Ht', Hsl⟩, HO⟩ Hk
  rw [k0_part5_eq_skeleton]
  unfold k0_part5_skel
  simp only [Prog.lift, Prog.bind_op, Prog.bind_ret, Prog.pure_eq_ret]
  iapply (loop1 m c (chunk0 c) c v4) $$ [Hv0 Hw Ha0]
  · isplitl [Hv0]; · iexact Hv0
    isplitl [Hw]; · iexact Hw
    iexact Ha0
  iintro ⟨Hv0, Hw, Ha0⟩
  iapply (wp_send m K c _ (Fin.ext (k0_dev1_eq c)) 0 ![0, 0, 0, 0] rfl _ ![0, 0, 0] rfl _ _ _ (sem_send _ _ _ 0 rfl) (sem_recv _ _ _ 0 rfl)) $$ [Ha0 Hsl HO Ht Ht']
  · isplitr; · iexact HR
    isplitl [Ha0]; · iexact Ha0
    isplitl [Hsl]; · iexact Hsl
    isplitl [HO]; · iexact HO
    isplitl [Ht]; · iexact Ht
    iexact Ht'
  iintro ⟨Hc0, HO⟩
  iapply (wp_fetched m c 1 (chunk0 c) fullShare.right 1 _ (sem_o1 _ _)) $$ [Hf1 HO]
  · isplitl [Hf1]; · iexact Hf1
    isplitl [HO]; · iexact HO
    iexact Hlev
  iintro ⟨Hor, Hv1, Hs1, HO⟩
  iapply (loop2 m c (chunk0 c) c v4) $$ [Hv1 Hw Ha1]
  · isplitl [Hv1]; · iexact Hv1
    isplitl [Hw]; · iexact Hw
    iexact Ha1
  iintro ⟨Hv1, Hw, Ha1⟩
  rw [wp_ret]
  imodintro
  iapply Hk
  isplitl [Hol Hor]
  · iapply (oPts_split m c).2
    isplitl [Hol]; · iexact Hol
    iexact Hor
  isplitl [Hv0]; · iexact Hv0
  isplitl [Hv1]; · iexact Hv1
  isplitl [Hs1]; · iexact Hs1
  isplitl [Hw]; · iexact Hw
  isplitl [Ha1]; · iexact Ha1
  isplitl [Hc0]; · iexact Hc0
  iexact HO

/-- A device's program, from start to end. -/
theorem body_run (K : RIx → ℕ) (c : Dev nD) :
    iprop(records m K ∗ levAts L lv ∗ bodyI m c) ⊢ wp frame (wpE (defs₀ (F := F)) 𝒱₀ (c : Thread nD τ) none) Set.univ (cc0_body (F := F) (Memref.whole main_arg0) (Memref.isWhole_whole _) (Memref.whole main_arg1) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) (fun _ => bodyO m c) := by
  rw [cc0_body_eq_skeleton]
  unfold cc0_body_skel bodyI bodyO
  iintro ⟨#HR, #Hlev, Ho, Hws, Hwa, Hv0, Hv1, Hb0, Hb1, Ha0, Ha1, Hva, Hvf, Hs0, Hs1, Hsa, Hst, Hout, HO, HW, HS⟩
  rw [← geS_zero]
  ihave HS := (geS_take (Sd c) 0 0 1 rfl rfl) $$ HS
  icases HS with ⟨HS0, HS1, HS⟩
  rw [wp_bind]
  iapply (part4_run m c 0) $$ [Ho Hws Hwa Hv0 Hv1 Hs0 Hs1 Hsa HO]
  · isplitr; · iexact Hlev
    isplitl [Ho]; · iexact Ho
    isplitl [Hws]; · iexact Hws
    isplitl [Hwa]; · iexact Hwa
    isplitl [Hv0]; · iexact Hv0
    isplitl [Hv1]; · iexact Hv1
    isplitl [Hs0]; · iexact Hs0
    isplitl [Hs1]; · iexact Hs1
    isplitl [Hsa]; · iexact Hsa
    iexact HO
  iintro %v2 %v4 ⟨Hol, Hv0, Hs0, Hf1, Hws, Hw, Hsa, HO⟩
  rw [wp_bind]
  iapply (part5_run m K c v4) $$ [Hol Hv0 Hf1 Hw Ha0 Ha1 HS0 HO]
  · isplitr; · iexact HR
    isplitr; · iexact Hlev
    isplitl [Hol]; · iexact Hol
    isplitl [Hv0]; · iexact Hv0
    isplitl [Hf1]; · iexact Hf1
    isplitl [Hw]; · iexact Hw
    isplitl [Ha0]; · iexact Ha0
    isplitl [Ha1]; · iexact Ha1
    isplitl [HS0]; · iexact HS0
    iexact HO
  iintro ⟨Ho, Hv0, Hv1, Hs1, Hw, Ha1, Hc0, HO⟩
  simp only [Prog.lift, Prog.bind_op, Prog.bind_ret, Prog.pure_eq_ret]
  unfold Sd
  icases HS1 with ⟨Ht, Ht', Hsl⟩
  iapply (wp_send m K c _ (Fin.ext (k0_dev2_eq c)) 1 ![0, 1, 0, 0] rfl _ ![1, 0, 0] rfl _ _ _ (sem_send _ _ _ 1 rfl) (sem_recv _ _ _ 1 rfl)) $$ [Ha1 Hsl HO Ht Ht']
  · isplitr; · iexact HR
    isplitl [Ha1]; · iexact Ha1
    isplitl [Hsl]; · iexact Hsl
    isplitl [HO]; · iexact HO
    isplitl [Ht]; · iexact Ht
    iexact Ht'
  iintro ⟨Hc1, HO⟩
  iapply (Scf.wp_for_bind frame (wpE (defs₀ (F := F)) 𝒱₀ (c : Thread nD τ) none) Set.univ k0_t3_loop.lb k0_t3_loop.ub k0_t3_loop.st k0_t3_ok ⟨⟩
    (k0_t3_body (F := F) (Memref.whole main_arg0) (Memref.isWhole_whole _) (Memref.whole main_arg1) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v2 v4)
    (fun s _ => iprop(records m K ∗ levAts L lv ∗ hopI m c s)) (fun s _ => hop m K c v2 v4 s)) $$ [Ho Hw Hv0 Hv1 Hb0 Hb1 Hva Hvf Hs0 Hs1 Hsa Hst Hout HO HW HS Hc0 Hc1]
  · isplitr; · iexact HR
    isplitr; · iexact Hlev
    unfold hopI still outOk
    isplitl [Ho Hw Hv0 Hv1 Hb0 Hb1 Hva Hvf Hs0 Hs1 Hsa Hst]
    · isplitl [Ho]; · iexact Ho
      isplitl [Hw]; · iexact Hw
      isplitl [Hv0]; · iexists _; iexact Hv0
      isplitl [Hv1]; · iexists _; iexact Hv1
      isplitl [Hb0]; · iexact Hb0
      isplitl [Hb1]; · iexact Hb1
      isplitl [Hva]; · iexact Hva
      isplitl [Hvf]; · iexact Hvf
      isplitl [Hs0]; · iexact Hs0
      isplitl [Hs1]; · iexact Hs1
      isplitl [Hsa]; · iexact Hsa
      iexact Hst
    isplitl [Hout]
    · icases Hout with ⟨%f, Hout⟩
      iexists f
      isplitr; · ipureintro; intro h; exact absurd h (by decide)
      iexact Hout
    isplitl [HO]; · iexact HO
    isplitl [HW]; · iexact HW
    isplitl [HS]; · iexact HS
    isplitr; · iapply (ltS_zero (Dn c)); iempintro
    isplitl [Hc0]; · rw [credOr_at c 0 (2 * 0) 0 rfl]; iexact Hc0
    rw [credOr_at c 1 (2 * 0 + 1) 1 rfl]; iexact Hc1
  iintro %acc ⟨-, -, HI⟩
  rw [wp_ret]
  imodintro
  rw [show Scf.trips k0_t3_loop.lb k0_t3_loop.ub k0_t3_loop.st = 7 from trips3]
  unfold hopI outOk
  icases HI with ⟨Hstill, ⟨%f, %hf, Hout⟩, HO, -, -, HD, Ha0, Ha1⟩
  isplitl [Hstill]; · iexact Hstill
  isplitl [Hws]; · iexact Hws
  isplitl [Hout]; · rw [← hf rfl]; iexact Hout
  isplitl [HO]; · iexact HO
  isplitl [HD]; · rw [geS_zero, ← ltS_all]; iexact HD
  isplitl [Ha0]; · iapply (credOr_back c 0 14 le_rfl); iexact Ha0
  iapply (credOr_back c 1 15 (by decide)); iexact Ha1

end Cert.Proof.K

end
-- ==== Proof.Deal.lean ====
/-
  A device's storage, taken apart as the launch hands it out and put together again for the call's exit: the scratch
  buffers by halves, the landing buffer by slots, the semaphores by what they count.
-/
module

public import proofs.«01_k».proof.Proof.Body

@[expose] public section

noncomputable section

namespace Cert.Proof.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]

local notation "𝕄" => MT nD τ sig Unit (Elt F) ℕ UU ℕ

variable (m : (ℓ : Loc nD τ sig) → Buf (Elt F) ℓ)

/-! ## Buffers by halves and by slots -/

theorem hS_disj : Disjoint (hS 0) (hS 1) :=
  Finset.disjoint_left.mpr fun i h h' => by rw [mem_hS] at h h'; exact absurd (h.symm.trans h') (by decide)
theorem hS_cover : hS 0 ∪ hS 1 = Finset.univ := by
  ext i; have h : (i 0).val < 2 := (i 0).isLt
  rw [Finset.mem_union, mem_hS, mem_hS]
  simp only [Fin.val_zero, Fin.val_one, Finset.mem_univ, iff_true]; omega
theorem hO_disj : Disjoint (hO 0) (hO 1) :=
  Finset.disjoint_left.mpr fun i h h' => by rw [mem_hO] at h h'; exact absurd (h.symm.trans h') (by decide)
theorem hO_cover : hO 0 ∪ hO 1 = Finset.univ := by
  ext i; have h : (i 0).val < 2 := (i 0).isLt
  rw [Finset.mem_union, mem_hO, mem_hO]
  simp only [Fin.val_zero, Fin.val_one, Finset.mem_univ, iff_true]; omega
theorem slotS_disj (k k' : Fin 14) (h : k ≠ k') : Disjoint (slotS k) (slotS k') :=
  Finset.disjoint_left.mpr fun i h1 h2 => by
    rw [mem_slotS] at h1 h2
    exact h (Fin.ext (by omega))
theorem slotS_cover : (Finset.univ : Finset (Fin 14)).biUnion slotS = Finset.univ := by
  ext i; have h0 : (i 0).val < 7 := (i 0).isLt; have h1 : (i 1).val < 2 := (i 1).isLt
  simp only [Finset.mem_biUnion, Finset.mem_univ, iff_true, true_and]
  refine ⟨⟨2 * (i 0).val + (i 1).val, by omega⟩, (mem_slotS _ i).mpr ⟨?_, ?_⟩⟩ <;> simp only <;> omega

/-- A buffer at some contents is its two parts at some contents. -/
theorem halves_split (ℓ : Loc nD τ sig) (A B : Finset (Idx ℓ)) (hd : Disjoint A B) (hc : A ∪ B = Finset.univ) :
    iprop(∃ f, ℓ ↦{fullShare} f) ⊢ (iprop((∃ f, ℓ ↦[A]{fullShare} f) ∗ (∃ f, ℓ ↦[B]{fullShare} f)) : sProp 𝕄) := by
  iintro ⟨%f, H⟩
  ihave H2 := (show (ℓ ↦{fullShare} f : sProp 𝕄) ⊢ iprop((ℓ ↦[A]{fullShare} f) ∗ ℓ ↦[B]{fullShare} f) from
    (Entails.of_eq (by rw [hc])).trans (pointsTo_union hd).1) $$ H
  icases H2 with ⟨H1, H2⟩
  isplitl [H1]; · iexists f; iexact H1
  iexists f; iexact H2
theorem halves_join (ℓ : Loc nD τ sig) (A B : Finset (Idx ℓ)) (hd : Disjoint A B) (hc : A ∪ B = Finset.univ) :
    (iprop((∃ f, ℓ ↦[A]{fullShare} f) ∗ (∃ f, ℓ ↦[B]{fullShare} f)) : sProp 𝕄) ⊢ iprop(∃ f, ℓ ↦{fullShare} f) := by
  iintro ⟨⟨%f, H1⟩, ⟨%g, H2⟩⟩
  iexists (B.piecewise g f)
  iapply (show iprop((ℓ ↦[A]{fullShare} f) ∗ ℓ ↦[B]{fullShare} g) ⊢ (ℓ ↦{fullShare} (B.piecewise g f) : sProp 𝕄) from
    (pointsTo_join hd).trans (Entails.of_eq (by rw [hc])))
  isplitl [H1] <;> iassumption

/-- The landing buffer is its fourteen slots. -/
theorem slots_split (c : Dev nD) (f : Vec F S7x2x512x8192 .bf16) :
    (((c : Thread nD τ).loc main_v1_1) ↦{fullShare} f : sProp 𝕄) ⊢ bigSep Finset.univ fun k : Fin 14 => slotPts c k f :=
  Entails.of_eq ((by rw [slotS_cover] :
      (((c : Thread nD τ).loc main_v1_1) ↦{fullShare} f : sProp 𝕄) = ((c : Thread nD τ).loc main_v1_1) ↦[Finset.univ.biUnion slotS]{fullShare} f).trans
    (pointsTo_biUnion _ _ fun k _ k' _ h => slotS_disj k k' h))

/-! ## Which storage is the call's own -/

set_option maxRecDepth 4000 in
theorem scopedRefs_eq : (Finset.univ.filter fun b : Ref sig .tc => b.isScoped)
    = {cc0_scratch0, cc0_scratch1, cc0_scratch2, cc0_scratch3, cc0_scratch4, cc0_scratch5} := by decide +kernel
set_option maxRecDepth 4000 in
theorem unscopedRefs_eq : (Finset.univ.filter fun b : Ref sig .tc => ¬ b.isScoped) = {main_arg0, main_arg1, main_v1_0, main_v1_1} := by
  decide +kernel

/-- The call's own buffers at whatever they hold. -/
theorem scoped_eq (c : Dev nD) : (scopedBufs (c : Thread nD τ) : sProp 𝕄)
    = iprop((∃ f, ((c : Thread nD τ).loc cc0_scratch0) ↦{fullShare} f) ∗ (∃ f, ((c : Thread nD τ).loc cc0_scratch1) ↦{fullShare} f)
      ∗ (∃ f, ((c : Thread nD τ).loc cc0_scratch2) ↦{fullShare} f) ∗ (∃ f, ((c : Thread nD τ).loc cc0_scratch3) ↦{fullShare} f)
      ∗ (∃ f, ((c : Thread nD τ).loc cc0_scratch4) ↦{fullShare} f) ∗ (∃ f, ((c : Thread nD τ).loc cc0_scratch5) ↦{fullShare} f)) := by
  refine (scopedBufs_tc c).trans ?_
  rw [scopedRefs_eq, bigSep_insert (by decide), bigSep_insert (by decide), bigSep_insert (by decide), bigSep_insert (by decide),
    bigSep_insert (by decide), bigSep_singleton]
  rfl

/-- The arguments, the result and the landing buffer. -/
theorem unscoped_eq (c : Dev nD) (V : (b : Ref sig .tc) → Buf (Elt F) ((c : Thread nD τ).loc b)) :
    (unscopedBufs c V : sProp 𝕄)
      = iprop((((c : Thread nD τ).loc main_arg0) ↦{fullShare} V main_arg0) ∗ (((c : Thread nD τ).loc main_arg1) ↦{fullShare} V main_arg1)
        ∗ (((c : Thread nD τ).loc main_v1_0) ↦{fullShare} V main_v1_0) ∗ (((c : Thread nD τ).loc main_v1_1) ↦{fullShare} V main_v1_1)) := by
  unfold unscopedBufs
  rw [unscopedRefs_eq, bigSep_insert (by decide), bigSep_insert (by decide), bigSep_insert (by decide), bigSep_singleton]
  rfl

/-! ## Semaphores -/

theorem rSem_injective : Function.Injective rSem := by decide +kernel

set_option maxRecDepth 4000 in
theorem scopedSems_eq : (Finset.univ.filter fun sm : SemLoc sig => sm.isScoped .tc)
    = (Finset.univ.image fun x : Bool × Fin 14 => SemLoc.dma (rSem x))
      ∪ {SemLoc.dma (oSem 0), SemLoc.dma (oSem 1), SemLoc.dma vaSem, SemLoc.dma stSem} := by decide +kernel

set_option maxRecDepth 4000 in
theorem scopedSems_disj : Disjoint (Finset.univ.image fun x : Bool × Fin 14 => (SemLoc.dma (rSem x) : SemLoc sig))
    {SemLoc.dma (oSem 0), SemLoc.dma (oSem 1), SemLoc.dma vaSem, SemLoc.dma stSem} := by decide +kernel

/-- The four semaphores of a device's local transfers, at zero. -/
def localSems (c : Dev nD) : sProp 𝕄 := iprop(oSem0 (F := F) c 0 ∗ oSem0 (F := F) c 1 ∗ vaSem0 (F := F) c ∗ stSem0 (F := F) c)

/-- The call's own semaphores at zero: the ring's, and those of the local transfers. -/
theorem scopedSems_split (c : Dev nD) : (scopedSems0 (c : Thread nD τ) : sProp 𝕄)
    = iprop((bigSep Finset.univ fun x : Bool × Fin 14 => semVal (rCell (c, x)) 0) ∗ localSems (F := F) c) := by
  refine (scopedSems0_tc c).trans ?_
  rw [scopedSems_eq, bigSep_union scopedSems_disj, bigSep_image_of_injOn (fun x _ y _ h => rSem_injective (SemLoc.dma.inj h)),
    bigSep_insert (by decide), bigSep_insert (by decide), bigSep_insert (by decide), bigSep_singleton]
  rfl

/-- Every semaphore the ring has closed is at zero. -/
theorem ringSems_back (c : Dev nD) : (bigSep Finset.univ (Dn (F := F) c) : sProp 𝕄)
    ⊢ bigSep Finset.univ fun x : Bool × Fin 14 => semVal (rCell (c, x)) 0 := by
  rw [bigSep_univ_prod (fun x : Bool × Fin 14 => (semVal (rCell (c, x)) 0 : sProp 𝕄)), Fintype.univ_bool, bigSep_insert (by decide), bigSep_singleton]
  unfold Dn
  rw [bigSep_sep']
  exact BI.Entails.refl _

end Cert.Proof.K

end
-- ==== Proof.Call.lean ====
/-
  One device's run of the call: from what the launch deals it, through the kernel's body, to its result and its
  semaphores at zero.
-/
module

public import proofs.«01_k».proof.Proof.Deal

@[expose] public section

noncomputable section

namespace Cert.Proof.K

open Cert.KernelIdeal Cert.KernelIdeal.Gen
open Idealize.ShloMosaic Idealize.ShloMosaic.TcCoe
open Idealize.SL Idealize.SL.RA Idealize.SL.BI
open Idealize.ShloMosaic.Pipeline (Dat BodyObligation)
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]

local notation "𝕄" => MT nD τ sig Unit (Elt F) ℕ UU ℕ

variable (m : (ℓ : Loc nD τ sig) → Buf (Elt F) ℓ)

/-- What the launch deals device `c` beyond its scratch: the records and the levels, its arguments, its result buffer,
    the semaphores of its local transfers, and its part in every transfer. -/
def start (c : Dev nD) : sProp 𝕄 :=
  iprop((∃ K, records m K) ∗ levAts L lv ∗ oPts m c fullShare ∗ wSrc m c ∗ (∃ f, outPts c f) ∗ localSems c
    ∗ bigSep Finset.univ (Wt c) ∗ bigSep Finset.univ (Sd c))

/-- What device `c` ends with: its arguments unchanged, its result. -/
def done (c : Dev nD) : sProp 𝕄 := iprop(oPts m c fullShare ∗ wSrc m c ∗ outPts c (outF m c))

def Φ₀ (c : Dev nD) : sProp 𝕄 := iprop(start m c ∗ scopedBufs (c : Thread nD τ))
def Φ₁ (c : Dev nD) : sProp 𝕄 := iprop(done m c ∗ scopedSems0 (c : Thread nD τ) ∗ scopedBufs (c : Thread nD τ))

/-- The scratch, as the body takes it. -/
theorem scratch_out (c : Dev nD) : (scopedBufs (c : Thread nD τ) : sProp 𝕄)
    ⊢ iprop(wAny c ∗ ((∃ f, accPts c 0 f) ∗ ∃ f, accPts c 1 f) ∗ ((∃ f, vbPts c 0 f) ∗ ∃ f, vbPts c 1 f) ∗ ((∃ f, ovPts c 0 f) ∗ ∃ f, ovPts c 1 f)
      ∗ (∃ f, vaPts c f) ∗ ∃ f, vfPts c f) :=
by
  refine (Entails.of_eq (scoped_eq c)).trans (BI.sep_mono (BI.Entails.refl _) (BI.sep_mono ?_ (BI.sep_mono ?_ (BI.sep_mono ?_ (BI.Entails.refl _)))))
  · exact halves_split ((c : Thread nD τ).loc cc0_scratch1) (hS 0) (hS 1) hS_disj hS_cover
  · exact halves_split ((c : Thread nD τ).loc cc0_scratch2) (hS 0) (hS 1) hS_disj hS_cover
  · exact halves_split ((c : Thread nD τ).loc cc0_scratch3) (hO 0) (hO 1) hO_disj hO_cover
theorem scratch_in (c : Dev nD) :
    iprop(wAny c ∗ ((∃ f, accPts c 0 f) ∗ ∃ f, accPts c 1 f) ∗ ((∃ f, vbPts c 0 f) ∗ ∃ f, vbPts c 1 f) ∗ ((∃ f, ovPts c 0 f) ∗ ∃ f, ovPts c 1 f)
      ∗ (∃ f, vaPts c f) ∗ ∃ f, vfPts c f) ⊢ (scopedBufs (c : Thread nD τ) : sProp 𝕄) := by
  refine BI.Entails.trans (BI.sep_mono (BI.Entails.refl _) (BI.sep_mono ?_ (BI.sep_mono ?_ (BI.sep_mono ?_ (BI.Entails.refl _)))))
    (Entails.of_eq (scoped_eq c).symm)
  · exact halves_join ((c : Thread nD τ).loc cc0_scratch1) (hS 0) (hS 1) hS_disj hS_cover
  · exact halves_join ((c : Thread nD τ).loc cc0_scratch2) (hS 0) (hS 1) hS_disj hS_cover
  · exact halves_join ((c : Thread nD τ).loc cc0_scratch3) (hO 0) (hO 1) hO_disj hO_cover

/-- From what the launch deals to what the body runs from, -/
theorem body_in (c : Dev nD) : iprop(Φ₀ m c ∗ owesE c 0) ⊢ (iprop(∃ K, records m K ∗ levAts L lv ∗ bodyI m c) : sProp 𝕄) := by
  unfold Φ₀ start localSems
  iintro ⟨⟨⟨⟨%K, Hrec⟩, Hlev, Ho, Hw, Hout, ⟨Hs0, Hs1, Hs2, Hs3⟩, HW, HS⟩, Hsc⟩, Howe⟩
  ihave Hsc := (scratch_out c) $$ Hsc
  icases Hsc with ⟨Hwa, ⟨Ha0, Ha1⟩, ⟨Hb0, Hb1⟩, ⟨Ho0, Ho1⟩, Hva, Hvf⟩
  iexists K
  isplitl [Hrec]; · iexact Hrec
  isplitl [Hlev]; · iexact Hlev
  unfold bodyI
  isplitl [Ho]; · iexact Ho
  isplitl [Hw]; · iexact Hw
  isplitl [Hwa]; · iexact Hwa
  isplitl [Ho0]; · iexact Ho0
  isplitl [Ho1]; · iexact Ho1
  isplitl [Hb0]; · iexact Hb0
  isplitl [Hb1]; · iexact Hb1
  isplitl [Ha0]; · iexact Ha0
  isplitl [Ha1]; · iexact Ha1
  isplitl [Hva]; · iexact Hva
  isplitl [Hvf]; · iexact Hvf
  isplitl [Hs0]; · iexact Hs0
  isplitl [Hs1]; · iexact Hs1
  isplitl [Hs2]; · iexact Hs2
  isplitl [Hs3]; · iexact Hs3
  isplitl [Hout]; · iexact Hout
  isplitl [Howe]; · iexact Howe
  isplitl [HW] <;> iassumption

/-- and from what it leaves to what the call ends with. -/
theorem body_out (c : Dev nD) : bodyO m c ⊢ (iprop(Φ₁ m c ∗ owesE c 16) : sProp 𝕄) := by
  unfold bodyO still
  iintro ⟨⟨Ho, Hwp, Ho0, Ho1, Hb0, Hb1, Hva, Hvf, Hs0, Hs1, Hs2, Hs3⟩, Hw, Hout, Howe, HD, Ha0, Ha1⟩
  isplitr [Howe]
  · unfold Φ₁ done
    isplitl [Ho Hw Hout]
    · isplitl [Ho]; · iexact Ho
      isplitl [Hw] <;> iassumption
    isplitl [HD Hs0 Hs1 Hs2 Hs3]
    · iapply (Entails.of_eq (scopedSems_split c).symm)
      isplitl [HD]; · iapply (ringSems_back c); iexact HD
      unfold localSems
      isplitl [Hs0]; · iexact Hs0
      isplitl [Hs1]; · iexact Hs1
      isplitl [Hs2] <;> iassumption
    · iapply (scratch_in c)
      isplitl [Hwp]; · unfold wPts wAny; iexists (wIn m c); iexact Hwp
      isplitl [Ha0 Ha1]; · isplitl [Ha0] <;> iassumption
      isplitl [Hb0 Hb1]; · isplitl [Hb0] <;> iassumption
      isplitl [Ho0 Ho1]; · isplitl [Ho0] <;> iassumption
      isplitl [Hva] <;> iassumption
  · iexact Howe

/-- The grid has one point and no window: its invariant before and after. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => owedFrom c 0
    | ⟨_ + 1, _⟩ => 0

theorem bigSep_W (Φ : Fin cfg0.W → sProp 𝕄) : bigSep Finset.univ Φ = BI.emp := by
  rw [show (Finset.univ : Finset (Fin cfg0.W)) = ∅ from rfl, bigSep_empty]

theorem owesAt_first (c : Dev nD) : owesE (F := F) c 0 ⊢ (dats m 0 c).owesAt () 0 := by
  unfold Dat.owesAt Pipeline.owesWithin owesE
  iintro ⟨%W, H⟩
  iexists W
  isplitr; · ipureintro; exact fun _ _ => Or.inl trivial
  iexact H
theorem owesAt_start (c : Dev nD) : (dats m 0 c).owesAt () (t0_0).castSucc ⊢ owesE (F := F) c 0 := by
  unfold Dat.owesAt Pipeline.owesWithin owesE
  iintro ⟨%W, -, H⟩
  iexists W
  iexact H
theorem owesAt_end (c : Dev nD) : owesE (F := F) c 16 ⊢ (dats m 0 c).owesAt () (t0_0).succ := by
  unfold Dat.owesAt Pipeline.owesWithin owesE
  rw [owedFrom_end c 16 (by decide)]
  iintro ⟨%W, H⟩
  iexists W
  isplitr; · ipureintro; exact fun _ _ => Or.inl trivial
  iexact H
theorem owesAt_last (c : Dev nD) : (dats m 0 c).owesAt () (Fin.last cfg0.N) ⊢ iprop(∃ W, owes (c : Thread nD τ) (0 : CellTallies nD τ sig Unit) W) := by
  unfold Dat.owesAt Pipeline.owesWithin
  iintro ⟨%W, -, H⟩
  iexists W
  iexact H

set_option maxRecDepth 4000 in
theorem body_obligation (c : Dev nD) : BodyObligation (dats (F := F) m 0 c) (defs₀ (F := F)) 𝒱₀ () Set.univ := fun t => by
  rw [fin_N0 t, bigSep_W, bigSep_W]
  show iprop(Φ₀ m c ∗ (dats m 0 c).owesAt () (t0_0).castSucc ∗ emp) ⊢ wp frame (wpE (defs₀ (F := F)) 𝒱₀ (c : Thread nD τ) none) Set.univ
      (cc0_body (F := F) (Memref.whole main_arg0) (Memref.isWhole_whole _) (Memref.whole main_arg1) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) (fun _ => iprop(Φ₁ m c ∗ (dats m 0 c).owesAt () (t0_0).succ ∗ emp))
  iintro ⟨HΦ, Ho, -⟩
  ihave Ho := (owesAt_start m c) $$ Ho
  ihave H := (body_in m c) $$ [HΦ Ho]
  · isplitl [HΦ] <;> iassumption
  icases H with ⟨%K, H⟩
  iapply (wp_wand_r Idealize.ShloMosaic.frame (wpE (defs₀ (F := F)) 𝒱₀ (c : Thread nD τ) none) Set.univ)
  isplitl [H]; · iapply (body_run m K c); iexact H
  iintro %_ H
  ihave H := (body_out m c) $$ H
  icases H with ⟨HΦ, Ho⟩
  isplitl [HΦ]; · iexact HΦ
  isplitl [Ho]; · iapply (owesAt_end m c); iexact Ho
  iempintro

abbrev pcs : Fin 1 → Pipeline.PCfg sig Λ₀ (Elt F) := fun p => (cfgs p).toPCfg
abbrev adm : (p : Fin 1) → (pcs (F := F) p).Adm := fun p => (cfgs p).toPCfg_adm

theorem staging_emp (c : Dev nD) : (scopedBufs (c : Thread nD τ) : sProp 𝕄)
    ⊢ iprop(Dat.staging (Pipeline.pin (pcs (F := F)) adm 0) c ∗ scopedBufs (c : Thread nD τ)) := by
  unfold Dat.staging
  iintro H
  isplitr
  · iapply (Entails.of_eq (bigSep_W (F := F) _).symm); iempintro
  · iexact H

theorem pref_emp (c : Dev nD) : (BI.emp : sProp 𝕄)
    ⊢ Pipeline.prefHeld (pcs (F := F) 0).pre c (fun _ => fullShare) (adm (F := F) 0).1 := by
  unfold Pipeline.prefHeld
  exact Entails.of_eq bigSep_empty.symm

theorem enter (c : Dev nD) :
    iprop(start m c ∗ Pipeline.prefHeld (pcs (F := F) 0).pre c (fun _ => fullShare) (adm (F := F) 0).1 ∗ scopedBufs (c : Thread nD τ)) ⊢ (dats m 0 c).Φ 0 := by
  show _ ⊢ Φ₀ m c
  unfold Φ₀
  iintro ⟨H1, -, H2⟩
  isplitl [H1] <;> iassumption

theorem leave (c : Dev nD) (P : sProp 𝕄) :
    iprop((dats m 0 c).Φ (Fin.last cfg0.N) ∗ P) ⊢ iprop(done m c ∗ scopedSems0 (c : Thread nD τ) ∗ scopedBufs (c : Thread nD τ)) := by
  show iprop(Φ₁ m c ∗ P) ⊢ _
  unfold Φ₁
  iintro ⟨H, -⟩
  iexact H

theorem entry_in (c : Dev nD) : owesE (F := F) c 0
    ⊢ Pipeline.EntryPre (Pipeline.pin (pcs (F := F)) adm) (dats m) () EP (fun _ => 0) 0 c := by
  unfold Pipeline.EntryPre Pipeline.PerCore.EntryPre Dat.arrays Pipeline.PerCore.cellsWaits Pipeline.PerCore.RDat.cellsWaits Pipeline.PerCore.cellsInit Pipeline.PerCore.RDat.cellsInit Pipeline.PerCore.toksInit
  iintro H
  isplitr; · iapply (Entails.of_eq (bigSep_W (F := F) _).symm); iempintro
  isplitl [H]; · iapply (owesAt_first m c); iexact H
  isplitr; · iapply (Entails.of_eq (bigSep_W (F := F) _).symm); iempintro
  isplitr; · iapply (Entails.of_eq (bigSep_W (F := F) _).symm); iempintro
  iapply (Entails.of_eq (bigSep_W (F := F) _).symm); iempintro

theorem entry_out (c : Dev nD) : Pipeline.EntryPost (Pipeline.pin (pcs (F := F)) adm) (dats m) () 0 c
    ⊢ iprop(∃ W, owes (c : Thread nD τ) (0 : CellTallies nD τ sig Unit) W) := by
  unfold Pipeline.EntryPost Pipeline.PerCore.EntryPost
  iintro ⟨-, H⟩
  iapply (owesAt_last m c); iexact H

/-- The call: from what is dealt, with the scratch and everything owed, to the result, with every semaphore of the call
    at zero and nothing owed. -/
theorem call_run (c : Dev nD) :
    iprop(start m c ∗ scopedBufs (c : Thread nD τ) ∗ owesE c 0)
      ⊢ wp frame (wpE (defs (F := F)) (Variants.lift 𝒱₀) (c : Thread nD τ) none) Set.univ (main (F := F) c)
        (fun _ => iprop((done m c ∗ scopedSems0 (c : Thread nD τ)) ∗ ∃ W, owes (c : Thread nD τ) (0 : CellTallies nD τ sig Unit) W)) := by
  rw [show main (F := F) c = .op (.customCall (Pipeline.entry 0) ()) fun _ => .ret ⟨⟩ from (main_chain c).trans rfl]
  have h := Pipeline.wp_customCall_entry_frame (pcs (F := F)) adm (dats m) () EP (fun _ => 0) cellOf_inj (0 : Fin 1)
    (defs₀ (F := F)) 𝒱₀ (fun _ => fullShare) c Set.univ (fun _ _ => Set.mem_univ _) (body_obligation m c) (fun w => w.elim0) none (fun u h => nomatch h)
    (X := start m c) (Y := done m c) (R := scopedBufs (c : Thread nD τ)) (I := iprop(emp)) (staging_emp c) (enter m c) (leave m c _)
    (α := PUnit) (k := fun _ => .ret PUnit.unit) (Q := fun _ => iprop((done m c ∗ scopedSems0 (c : Thread nD τ)) ∗ ∃ W, owes (c : Thread nD τ) (0 : CellTallies nD τ sig Unit) W))
  iintro ⟨Hst, Hsc, Ho⟩
  iapply h $$ [Hst Hsc Ho]
  · isplitl [Ho]; · iapply (entry_in m c); iexact Ho
    isplitr; · iapply (pref_emp (F := F) c); iempintro
    isplitl [Hst]; · iexact Hst
    isplitr; · iempintro
    iexact Hsc
  · iintro ⟨Hpost, HY, Hs, -⟩
    rw [wp_ret]; imodintro
    isplitr [Hpost]
    · isplitl [HY] <;> iassumption
    · iapply (entry_out m c); iexact Hpost

end Cert.Proof.K

end
-- ==== Proof.Launch.lean ====
/-
  The launch: the ring's ghost state allocated once for all devices and dealt round the ring — every device gets the
  right to write into its neighbour's slots —, then each device's run, then the final memory read.
-/
module

public import proofs.«01_k».proof.Proof.Call

@[expose] public section

noncomputable section

namespace Cert.Proof.K

open Cert.KernelIdeal Cert.KernelIdeal.Gen
open Idealize.ShloMosaic Idealize.ShloMosaic.TcCoe
open Idealize.SL Idealize.SL.RA Idealize.SL.BI
open Idealize.ShloMosaic.Pipeline (owing owing_of_ne launchCred)
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]

local notation "𝕄" => MT nD τ sig Unit (Elt F) ℕ UU ℕ

variable (m : (ℓ : Loc nD τ sig) → Buf (Elt F) ℓ)

/-! ## The ring's ghost state -/

theorem rCell_injective : Function.Injective (rCell : RIx → GSem nD τ sig) := by
  rintro ⟨c, x⟩ ⟨c', x'⟩ h
  have h1 : c = c' := congrArg (fun g : GSem nD τ sig => g.1.1) h
  have h2 : rSem x = rSem x' := SemLoc.dma.inj (congrArg Prod.snd h)
  rw [h1, rSem_injective h2]

def ringCells : Finset (GSem nD τ sig) := Finset.univ.image (rCell : RIx → GSem nD τ sig)
def ringToks : Finset (GSem nD τ sig × ℕ × Unit) := Finset.univ.image fun x : RIx => ((rCell x, 0, ()) : GSem nD τ sig × ℕ × Unit)

/-- The ghost element of the launch: the ring's cells and the tokens of its transfers. -/
def u₀ : UU := (1, (initOf ringCells ringToks, 1))

theorem fund : (ownU u₀ : sProp 𝕄)
    ⊢ iprop(|==> ((bigSep Finset.univ fun x : RIx => initState ER (rCell x)) ∗ (bigSep Finset.univ fun x : RIx => reached ER (rCell x) 0)
      ∗ (bigSep Finset.univ fun x : RIx => atPos ER (rCell x) 0 ∅ 0) ∗ bigSep Finset.univ fun x : RIx => dutyTok ER (rCell x) 0 ())) := by
  refine BI.Entails.trans (BI.Entails.refl (BI.own (ER (F := F) (initOf ringCells ringToks)))) ?_
  refine (fund_init ER ringCells ringToks).trans (BI.bupd_mono ?_)
  unfold ringCells ringToks
  rw [bigSep_image_of_injOn rCell_injective.injOn, bigSep_image_of_injOn rCell_injective.injOn, bigSep_image_of_injOn rCell_injective.injOn,
    bigSep_image_of_injOn (fun x _ y _ h => rCell_injective (congrArg Prod.fst h))]
  exact BI.Entails.refl _

/-- Every cell of the ring under its invariant. -/
theorem cells_alloc :
    iprop((bigSep Finset.univ fun x : RIx => semVal (rCell x) 0) ∗ bigSep Finset.univ fun x : RIx => initState ER (rCell x))
      ⊢ (|={Set.univ}=> iprop(∃ K : RIx → ℕ, bigSep Finset.univ fun x : RIx => cellInv ER (ringRd m) (K x) (rCell x)) : sProp 𝕄) := by
  rw [← bigSep_sep']
  have h : (bigSep Finset.univ fun x : RIx => iprop(semVal (rCell x) 0 ∗ initState ER (rCell x)))
      ⊢ (|={Set.univ}=> bigSep Finset.univ fun x : RIx => iprop(∃ κ : ℕ, cellInv ER (ringRd m) κ (rCell x)) : sProp 𝕄) :=
    (bigSep_mono fun x _ => ((BI.sep_mono_r (roundState_init ER (ringRd m))).trans (body_intro ER (ringRd m) (rCell x))).trans
      (inv_alloc (E := Set.univ))).trans (bigSep_fupd _ _)
  iintro H
  imod h $$ H with H
  imodintro
  iapply (BI.bigSep_exists_pi Finset.univ fun (x : RIx) (κ : ℕ) => (cellInv ER (ringRd m) κ (rCell x) : sProp 𝕄))
  iexact H

/-! ## Dealing -/

/-- A family over the ring's cells, per device: its landings and its read-outs. -/
theorem per_device (Φ : RIx → sProp 𝕄) : bigSep Finset.univ Φ
    = bigSep Finset.univ fun c : Dev nD => iprop((bigSep Finset.univ fun k : Fin 14 => Φ (c, true, k)) ∗ bigSep Finset.univ fun k : Fin 14 => Φ (c, false, k)) := by
  rw [bigSep_univ_prod]
  refine bigSep_congr fun c _ => ?_
  rw [bigSep_univ_prod (fun x : Bool × Fin 14 => Φ (c, x)), Fintype.univ_bool, bigSep_insert (by decide), bigSep_singleton]
  rfl

/-- What device `c` is dealt first-hand: -/
def raw (c : Dev nD) : sProp 𝕄 :=
  iprop(oPts m c fullShare ∗ wSrc m c ∗ (∃ f, outPts c f) ∗ localSems c
    ∗ (bigSep Finset.univ fun k : Fin 14 => cred (tallyAt (recvCell c k) () N))
    ∗ (bigSep Finset.univ fun k : Fin 14 => iprop(∃ f, slotPts c k f))
    ∗ ((bigSep Finset.univ fun k : Fin 14 => atPos ER (recvCell c k) 0 ∅ 0) ∗ bigSep Finset.univ fun k : Fin 14 => atPos ER (sendCell c k) 0 ∅ 0)
    ∗ (bigSep Finset.univ fun k : Fin 14 => dutyTok ER (recvCell c k) 0 ()) ∗ bigSep Finset.univ fun k : Fin 14 => dutyTok ER (sendCell c k) 0 ())

/-- and after the ring's passing round: its neighbour's slots, and the right to fill them. -/
def dealt (c : Dev nD) : sProp 𝕄 :=
  iprop(oPts m c fullShare ∗ wSrc m c ∗ (∃ f, outPts c f) ∗ localSems c ∗ bigSep Finset.univ (Wt c) ∗ bigSep Finset.univ (Sd c))

theorem pass_round : bigSep Finset.univ (raw m) ⊢ (bigSep Finset.univ (dealt m) : sProp 𝕄) := by
  have h (c : Dev nD) : (bigSep Finset.univ (Wt c) : sProp 𝕄)
      = iprop(((bigSep Finset.univ fun k : Fin 14 => cred (tallyAt (recvCell c k) () N)) ∗ bigSep Finset.univ fun k : Fin 14 => atPos ER (recvCell c k) 0 ∅ 0)
        ∗ bigSep Finset.univ fun k : Fin 14 => atPos ER (sendCell c k) 0 ∅ 0) := by
    rw [← bigSep_sep', ← bigSep_sep']; rfl
  have h' (c : Dev nD) : (bigSep Finset.univ (Sd c) : sProp 𝕄)
      = iprop((bigSep Finset.univ fun k : Fin 14 => dutyTok ER (sendCell c k) 0 ())
        ∗ (bigSep Finset.univ fun k : Fin 14 => dutyTok ER (recvCell (nxt c) k) 0 ()) ∗ bigSep Finset.univ fun k : Fin 14 => iprop(∃ f, slotPts (nxt c) k f)) := by
    rw [← bigSep_sep', ← bigSep_sep']; rfl
  unfold raw dealt
  simp only [h, h', bigSep_sep']
  rw [bigSep_univ_equiv ring (fun c : Dev nD => bigSep Finset.univ fun k : Fin 14 => (dutyTok ER (recvCell c k) 0 () : sProp 𝕄)),
    bigSep_univ_equiv ring (fun c : Dev nD => bigSep Finset.univ fun k : Fin 14 => (iprop(∃ f, slotPts c k f) : sProp 𝕄))]
  iintro ⟨H1, H2, H3, H4, H5, H6, ⟨H7, H8⟩, H9, H10⟩
  isplitl [H1]; · iexact H1
  isplitl [H2]; · iexact H2
  isplitl [H3]; · iexact H3
  isplitl [H4]; · iexact H4
  isplitl [H5 H7 H8]
  · isplitl [H5 H7]; · isplitl [H5] <;> iassumption
    iexact H8
  isplitl [H10]; · iexact H10
  isplitl [H9]; · iexact H9
  iexact H6

/-- The credit of the launch: a device will be sent all its landings. -/
theorem credits (c : Dev nD) : (launchCred (fun d => owedFrom d 0) c : sProp 𝕄)
    ⊢ bigSep Finset.univ fun k : Fin 14 => cred (tallyAt (recvCell c k) () N) := by
  have h : (fun d : Dev nD => owedFrom d 0) = fun d => ∑ k ∈ (Finset.univ : Finset (Fin 14)), tallyAt (recvCell (nxt d) k) () N := by
    funext d; unfold owedFrom; rw [Finset.filter_true_of_mem fun j _ => Nat.zero_le _]
  rw [h, Pipeline.launchCred_sum]
  exact bigSep_mono fun k _ => Pipeline.launchCred_tallyAt (.dma (recvSem k)) nxt prv nxt_prv prv_nxt () N c

/-- A device's launch bundle, sorted. -/
theorem core_sorted (g : Dev nD → PrngReg) (c : Dev nD) :
    (coreInit (owing fun d => owedFrom d 0) 0 (⟨m, fun _ => 0, g⟩ : MemSt nD τ sig (Elt F)) (c : Thread nD τ) : sProp 𝕄)
      ⊢ iprop(scopedBufs (c : Thread nD τ) ∗ owesE c 0 ∗ levels0 c
        ∗ (bigSep Finset.univ fun x : Bool × Fin 14 => semVal (rCell (c, x)) 0)
        ∗ oPts m c fullShare ∗ wSrc m c ∗ (∃ f, outPts c f) ∗ localSems c
        ∗ (bigSep Finset.univ fun k : Fin 14 => cred (tallyAt (recvCell c k) () N))
        ∗ bigSep Finset.univ fun k : Fin 14 => iprop(∃ f, slotPts c k f)) := by
  refine (Pipeline.coreInit_boundary_owing _ m g c).trans ?_
  unfold boundary
  rw [unscoped_eq, scopedSems_split]
  iintro ⟨⟨Hsc, ⟨Hring, Hloc⟩, -⟩, ⟨Ho, Hw, Hout, Hslots⟩, -, HL, Hlv, -, Hcr⟩
  isplitl [Hsc]; · iexact Hsc
  isplitl [HL]; · unfold owesE; iexists ∅; iexact HL
  isplitl [Hlv]; · iexact Hlv
  isplitl [Hring]; · iexact Hring
  isplitl [Ho]; · unfold oPts oIn; iexact Ho
  isplitl [Hw]; · unfold wSrc wIn; iexact Hw
  isplitl [Hout]; · iexists (m ((c : Thread nD τ).loc main_v1_0)); unfold outPts; iexact Hout
  isplitl [Hloc]; · iexact Hloc
  isplitl [Hcr]; · iapply (credits (F := F) c); iexact Hcr
  iapply ((slots_split (F := F) c (m ((c : Thread nD τ).loc main_v1_1))).trans
    (bigSep_mono fun k _ => exists_intro (Φ := fun f => slotPts c k f) (m ((c : Thread nD τ).loc main_v1_1))))
  iexact Hslots

/-- The levels, assigned for the whole machine. -/
theorem levels_all : (bigSep Finset.univ fun c : Dev nD => levels0 (Ix := Unit) (Val := Elt F) (Name := ℕ) (U := UU) (Lvl := ℕ) (τ := τ) (sig := sig) c : sProp 𝕄)
    ⊢ (|==> levAts L lv : sProp 𝕄) := by
  have h1 : (bigSep Finset.univ fun c : Dev nD => levels0 (Ix := Unit) (Val := Elt F) (Name := ℕ) (U := UU) (Lvl := ℕ) (τ := τ) (sig := sig) c : sProp 𝕄)
      ⊢ (|==> bigSep Finset.univ fun c : Dev nD => iprop((bigSep Finset.univ fun sm : SemLoc sig => levels ((c : Thread nD τ), sm) (L ((c : Thread nD τ), sm)))
        ∗ coreLevAts (c : Thread nD τ) L lv) : sProp 𝕄) :=
    (bigSep_mono fun (c : Dev nD) _ => lev_assign_cells (c.tc : Thread nD τ) L lv).trans (BI.bigSep_bupd _ _)
  refine h1.trans (BI.bupd_mono ?_)
  have hsc : (bigSep Finset.univ fun d : Dev nD => bigSep (Finset.univ.erase (Proc.tc : Proc τ)) fun p => (coreLevAts ((d, p) : Thread nD τ) L lv : sProp 𝕄)) = BI.emp := by
    refine (bigSep_congr (Ψ := fun _ : Dev nD => (BI.emp : sProp 𝕄)) fun d _ => ?_).trans (BI.bigSep_emp_const _)
    refine (bigSep_congr (Ψ := fun _ : Proc τ => (BI.emp : sProp 𝕄)) fun p hp => ?_).trans (BI.bigSep_emp_const _)
    unfold coreLevAts
    refine (bigSep_congr (Ψ := fun _ : SemLoc sig => (BI.emp : sProp 𝕄)) fun sm _ => ?_).trans (BI.bigSep_emp_const _)
    rw [L_of_ne (((d, p) : Thread nD τ), sm) (Finset.ne_of_mem_erase hp), BI.bigSep_empty]
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv), hsc, bigSep_sep']
  show iprop(_ ∗ (bigSep Finset.univ fun d : Dev nD => coreLevAts (d.tc : Thread nD τ) L lv)) ⊢ iprop((bigSep Finset.univ fun d : Dev nD => coreLevAts (d.tc : Thread nD τ) L lv) ∗ BI.emp)
  iintro ⟨-, H⟩
  isplitl [H]; · iexact H
  iempintro

theorem with_records (K : RIx → ℕ) :
    iprop(records m K ∗ levAts L lv ∗ bigSep Finset.univ (dealt m)) ⊢ (bigSep Finset.univ (start m) : sProp 𝕄) := by
  refine (BI.sep_mono (BI.bigSep_of_persistent (Finset.univ : Finset (Dev nD)) (records m K))
    (BI.sep_mono_l (BI.bigSep_of_persistent (Finset.univ : Finset (Dev nD)) (levAts L lv)))).trans ?_
  show iprop((bigSep Finset.univ fun _ : Dev nD => records m K) ∗ (bigSep Finset.univ fun _ : Dev nD => levAts L lv) ∗ bigSep Finset.univ (dealt m)) ⊢ _
  rw [← bigSep_sep', ← bigSep_sep']
  refine bigSep_mono fun c _ => ?_
  show iprop(records m K ∗ levAts L lv ∗ dealt m c) ⊢ start m c
  unfold dealt start
  iintro ⟨HR, HL, H⟩
  isplitl [HR]; · iexists K; iexact HR
  isplitl [HL]; · iexact HL
  iexact H

theorem cores_sorted (g : Dev nD → PrngReg) :
    (bigSep Finset.univ fun c : Dev nD =>
        coreInit (owing fun d => owedFrom d 0) 0 (⟨m, fun _ => 0, g⟩ : MemSt nD τ sig (Elt F)) (c : Thread nD τ) : sProp 𝕄)
      ⊢ iprop((bigSep Finset.univ fun c : Dev nD => scopedBufs (c : Thread nD τ)) ∗ (bigSep Finset.univ fun c : Dev nD => owesE c 0)
        ∗ (bigSep Finset.univ fun c : Dev nD => levels0 (Ix := Unit) (Val := Elt F) (Name := ℕ) (U := UU) (Lvl := ℕ) (τ := τ) (sig := sig) c)
        ∗ (bigSep Finset.univ fun c : Dev nD => bigSep Finset.univ fun x : Bool × Fin 14 => semVal (rCell (c, x)) 0)
        ∗ (bigSep Finset.univ fun c : Dev nD => oPts m c fullShare) ∗ (bigSep Finset.univ fun c : Dev nD => wSrc m c)
        ∗ (bigSep Finset.univ fun c : Dev nD => iprop(∃ f, outPts c f)) ∗ (bigSep Finset.univ fun c : Dev nD => localSems c)
        ∗ (bigSep Finset.univ fun c : Dev nD => bigSep Finset.univ fun k : Fin 14 => cred (tallyAt (recvCell c k) () N))
        ∗ bigSep Finset.univ fun c : Dev nD => bigSep Finset.univ fun k : Fin 14 => iprop(∃ f, slotPts c k f)) := by
  refine (bigSep_mono fun c _ => core_sorted m g c).trans ?_
  simp only [bigSep_sep']
  exact BI.Entails.refl _

/-- Everything the launch hands out, dealt. -/
theorem launch_all (g : Dev nD → PrngReg) :
    iprop((bigSep Finset.univ fun c : Dev nD =>
        coreInit (owing fun d => owedFrom d 0) 0 (⟨m, fun _ => 0, g⟩ : MemSt nD τ sig (Elt F)) (c : Thread nD τ)) ∗ ownU u₀)
      ⊢ (|={Set.univ}=> bigSep Finset.univ fun c : Dev nD => iprop(start m c ∗ scopedBufs (c : Thread nD τ) ∗ owesE c 0) : sProp 𝕄) := by
  iintro ⟨Hc, Hu⟩
  ihave Hc := (cores_sorted m g) $$ Hc
  icases Hc with ⟨Hsc, Howe, Hlv, Hsem, Ho, Hw, Hout, Hloc, Hcr, Hsl⟩
  imod (levels_all (F := F)) $$ Hlv with Hlv
  imod (fund (F := F)) $$ Hu with ⟨Hst, Hr, Hat, Htk⟩
  imod (cells_alloc m) $$ [Hsem Hst] with ⟨%K, Hinv⟩
  · rw [bigSep_univ_prod (fun x : RIx => (semVal (rCell x) 0 : sProp 𝕄))]
    isplitl [Hsem] <;> iassumption
  imodintro
  rw [bigSep_sep', bigSep_sep']
  isplitr [Hsc Howe]
  · iapply (with_records m K)
    isplitl [Hinv Hr]; · unfold records; isplitl [Hinv] <;> iassumption
    isplitl [Hlv]; · iexact Hlv
    iapply (pass_round m)
    unfold raw
    simp only [bigSep_sep']
    ihave Hat := (Entails.of_eq (per_device fun x => atPos ER (rCell x) 0 ∅ 0)) $$ Hat
    ihave Htk := (Entails.of_eq (per_device fun x => dutyTok ER (rCell x) 0 ())) $$ Htk
    ihave Hat := (Entails.of_eq (bigSep_sep' _ _ _)) $$ Hat
    ihave Htk := (Entails.of_eq (bigSep_sep' _ _ _)) $$ Htk
    isplitl [Ho]; · iexact Ho
    isplitl [Hw]; · iexact Hw
    isplitl [Hout]; · iexact Hout
    isplitl [Hloc]; · iexact Hloc
    isplitl [Hcr]; · iexact Hcr
    isplitl [Hsl]; · iexact Hsl
    isplitl [Hat]; · iexact Hat
    iexact Htk
  · isplitl [Hsc] <;> iassumption

/-! ## The run -/

/-- What one device's end says of the final memory. -/
theorem done_read (c : Dev nD) (s' : Phys nD τ sig (Elt F)) :
    iprop((done m c ∗ scopedSems0 (c : Thread nD τ)) ∗ SI s') ⊢ (|={Set.univ}=>
      iprop(⌜(s'.mem.mem ((c : Thread nD τ).loc main_arg0) = m ((c : Thread nD τ).loc main_arg0)
          ∧ s'.mem.mem ((c : Thread nD τ).loc main_arg1) = m ((c : Thread nD τ).loc main_arg1)
          ∧ s'.mem.mem ((c : Thread nD τ).loc main_v1_0) = outF m c)
        ∧ ∀ sm : SemLoc sig, sm.isScoped .tc = true → s'.mem.sem ((c : Thread nD τ), sm) = 0⌝ ∗ SI s') : sProp 𝕄) := by
  unfold done oPts wSrc outPts
  iintro ⟨⟨⟨Ho, Hw, Hout⟩, Hss⟩, HSI⟩
  ihave %hz := (tcScoped_read_pers c s') $$ [Hss HSI]
  · isplitl [Hss] <;> iassumption
  icombine HSI Ho gives %h0
  icombine HSI Hw gives %h1
  icombine HSI Hout gives %h2
  imodintro
  isplitr
  · ipureintro
    exact ⟨⟨Buf.eq_of_forall_mem_univ h0, Buf.eq_of_forall_mem_univ h1, Buf.eq_of_forall_mem_univ h2⟩, hz⟩
  · iexact HSI

/-- From any memory with every semaphore at zero, every fair run of the eight devices ends, each device's arguments as they
    were, its result computed, and every semaphore at zero. -/
theorem run_main (g : Dev nD → PrngReg) :
    θ_run (defs (F := F)) (onTc (τ := τ) (main (F := F))) (⟨m, fun _ => 0, g⟩ : MemSt nD τ sig (Elt F)) (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1_0) = outF m c)
      ∧ r.2.sem = fun _ => 0) := by
  let fin : Dev nD → sProp 𝕄 := fun c => iprop(done m c ∗ scopedSems0 (c : Thread nD τ))
  refine (θ_run (defs (F := F)) _ _).mono (Q := fun r =>
      (∀ c : Dev nD, (r.2.mem ((c : Thread nD τ).loc main_arg0) = m ((c : Thread nD τ).loc main_arg0)
          ∧ r.2.mem ((c : Thread nD τ).loc main_arg1) = m ((c : Thread nD τ).loc main_arg1)
          ∧ r.2.mem ((c : Thread nD τ).loc main_v1_0) = outF m c)
        ∧ ∀ sm : SemLoc sig, sm.isScoped .tc = true → r.2.sem ((c : Thread nD τ), sm) = 0)
      ∧ ∀ g' : GSem nD τ sig, g'.1.2 ≠ .tc → r.2.sem g' = 0)
    (fun r hr => ⟨fun c => (hr.1 c).1, sem_eq_zero_of_scoped (by decide +kernel) (sems_of_reads (fun c => (hr.1 c).2) hr.2)⟩)
    (adequate_tpu (defs (F := F)) _ _ _
      (reflect_intro_fupd_tc_sems (X := Unit) (Variants.lift 𝒱₀) (owing fun d => owedFrom d 0) 0 (noBookings fun _ => le_rfl) (owing_of_ne _) u₀
        (fun _ c => iprop(start m c ∗ scopedBufs (c : Thread nD τ) ∗ owesE c 0)) (fun _ => fin) (fun _ => iprop(emp)) Set.univ ?_ (fun _ c => ?_) fun _ => ?_))
  · iintro H
    imod (launch_all m g) $$ H with H
    imodintro
    iexists ()
    isplitl [H]; · iexact H
    iempintro
  · exact call_run m c
  · iintro ⟨H, -, Hsc⟩ %s' HSI
    ihave %hsc := (scSems_read_zero m g s') $$ [Hsc HSI]
    · isplitl [Hsc] <;> iassumption
    imod (posts_fupd Finset.univ (done_read m) s') $$ [H HSI] with %h
    · isplitl [H] <;> iassumption
    imodintro
    ipureintro
    exact ⟨fun c => h c (Finset.mem_univ c), hsc⟩

end Cert.Proof.K

end
-- ==== Proof.Partial.lean ====
/-
  The kernel's arithmetic over the extended reals: a tile's product at an index is the sum of 1024 products, and what a
  device leaves after the ring is the sum, over the eight devices, of their partial products of that device's chunk.
-/
module

public import proofs.«01_k».proof.Proof.Base
public import Idealize.ShloMosaic.Lib.Pointwise
public import Idealize.ShloMosaic.Lib.Pointwise.IndexBridge

@[expose] public section

noncomputable section

namespace Cert.Proof.K

open Cert.KernelIdeal Cert.KernelIdeal.Gen
open Idealize.ShloMosaic Idealize.ShloMosaic.TcCoe

variable (m : (ℓ : Loc nD τ sig) → Buf (Elt Ideal) ℓ)

/-- A partial product at an index: the 1024 products of one row of the chunk with one column of the device's block of `W`. -/
theorem vb_apply (d : Dev nD) (j : Fin 8) (b : Fin 2) (r : Fin 512) (n : Fin 8192) :
    vbF m d j (ix3 b r n) = ∑ k : Fin 1024, oIn m d (ix4 b j r k) * wIn m d (ix2 k n) := by
  unfold vbF
  pointwise [k0_pay1, tileOf, ovF, inTile, ← ix4_eq_valueIdx, ← ix3_eq_valueIdx]
  have hr : (⟨128 * (r.val / 128) + r.val % 128, row_lt r.isLt ⟨r.val % 128, Nat.mod_lt _ (by decide)⟩⟩ : Fin 512) = r :=
    Fin.ext (Nat.div_add_mod r.val 128)
  refine Finset.sum_congr rfl fun k _ => ?_
  show oIn m d (ix4 b j ⟨128 * (r.val / 128) + r.val % 128, _⟩ k) * _ = _
  rw [hr]

/-- The device `k + 1` places after `c`. -/
def after (c : Dev nD) (k : ℕ) : Dev nD := ⟨(c.val + 1 + k) % 8, Nat.mod_lt _ (by decide)⟩

theorem prv_after (c : Dev nD) (k : ℕ) : prv (after c (k + 1)) = after c k := by
  refine Fin.ext ?_
  simp only [prv, after]
  omega

theorem after_seven (c : Dev nD) : after c 7 = c := by
  refine Fin.ext ?_
  have : c.val < 8 := c.isLt
  simp only [after]
  omega

theorem after_bijective (c : Dev nD) : Function.Bijective fun k : Fin 8 => after c k.val := by
  refine Finite.injective_iff_bijective.mp fun k l h => Fin.ext ?_
  have h : (c.val + 1 + k.val) % 8 = (c.val + 1 + l.val) % 8 := congrArg Fin.val h
  have := k.isLt
  have := l.isLt
  omega

/-- Going back round the ring from `c` meets each device once. -/
theorem ring_sum (f : Dev nD → EReal) (c : Dev nD) :
    f (prv (prv (prv (prv (prv (prv (prv c))))))) + f (prv (prv (prv (prv (prv (prv c)))))) + f (prv (prv (prv (prv (prv c)))))
      + f (prv (prv (prv (prv c)))) + f (prv (prv (prv c))) + f (prv (prv c)) + f (prv c) + f c = ∑ d : Dev nD, f d := by
  have key (x : Dev nD) (hx : x = after c 7) :
      f (prv (prv (prv (prv (prv (prv (prv x))))))) + f (prv (prv (prv (prv (prv (prv x)))))) + f (prv (prv (prv (prv (prv x)))))
        + f (prv (prv (prv (prv x)))) + f (prv (prv (prv x))) + f (prv (prv x)) + f (prv x) + f x
      = ∑ k : Fin 8, f (after c k.val) := by
    rw [hx, prv_after, prv_after, prv_after, prv_after, prv_after, prv_after, prv_after, Fin.sum_univ_eight]
    rfl
  exact (key c (after_seven c).symm).trans ((after_bijective c).sum_comp f)

/-- The chunk added at each of the eight places on the way to device `c` is chunk `c`. -/
theorem chunks_back (c : Dev nD) :
    chunk0 (prv (prv (prv (prv (prv (prv (prv c))))))) = c ∧ chunk (prv (prv (prv (prv (prv (prv c)))))) 0 = c
      ∧ chunk (prv (prv (prv (prv (prv c))))) 1 = c ∧ chunk (prv (prv (prv (prv c)))) 2 = c ∧ chunk (prv (prv (prv c))) 3 = c
      ∧ chunk (prv (prv c)) 4 = c ∧ chunk (prv c) 5 = c ∧ chunk c 6 = c := by
  revert c; decide

/-- What device `c` leaves, at an index: the eight devices' partial products of chunk `c`, added up. -/
theorem out_apply (c : Dev nD) (i : S2x512x8192.Idx) : outF m c i = ∑ d : Dev nD, vbF m d c i := by
  have h0 (d : Dev nD) : accF m d 0 i = vbF m d (chunk0 d) i := rfl
  have hs (d : Dev nD) (s : ℕ) : accF m d (s + 1) i = accF m (prv d) s i + vbF m d (chunk d s) i := rfl
  have ho : outF m c i = accF m (prv c) 6 i + vbF m c (chunk c 6) i := rfl
  obtain ⟨e0, e1, e2, e3, e4, e5, e6, e7⟩ := chunks_back c
  rw [ho, hs, hs, hs, hs, hs, hs, h0, e0, e1, e2, e3, e4, e5, e6, e7]
  exact ring_sum (fun d => vbF m d c i) c

end Cert.Proof.K

end
-- ==== Proof.Ref.lean ====
/-
  The reference's product over the extended reals, at an index of block `c` of its rows, and the same sum cut where the
  operands are cut between the devices.
-/
module

public import proofs.«01_k».proof.Proof.Gen.ReferenceIdeal.Run
public import Idealize.ShloMosaic.Lib.Layout
public import Idealize.ShloMosaic.Lib.Pointwise

@[expose] public section

noncomputable section

namespace Cert.Proof.R

open Cert.ReferenceIdeal Cert.ReferenceIdeal.Gen
open Idealize.ShloMosaic

/-- The reference's result from its two arguments. -/
def refOut (x : FVec Ideal S2x8x512x8192 .f32) (w : FVec Ideal S8192x8192 .bf16) : FVec Ideal S2x4096x8192 .f32 :=
  Host.dotGeneral dot_S2x4096x8192_S8192x8192_S2x4096x8192_2_0_01_1_n_n none
    (shapeCast _ x shapeCasts_S2x8x512x8192_S2x4096x8192) (extf .f32 w bitsLt_bf16_f32)

theorem row_lt (c : Fin 8) (r : Fin 512) : c.val * 512 + r.val < 4096 := by
  have := c.isLt
  have := r.isLt
  omega

/-- Row `512 c + r` of the reference's product: the 8192 products of row `r` of chunk `c` with a column of `W`. -/
theorem ref_apply (x : FVec Ideal S2x8x512x8192 .f32) (w : FVec Ideal S8192x8192 .bf16) (b : Fin 2) (c : Fin 8) (r : Fin 512)
    (n : Fin 8192) :
    refOut x w (ix3 b ⟨c.val * 512 + r.val, row_lt c r⟩ n) = ∑ k : Fin 8192, x (ix4 b c r k) * w (ix2 k n) := by
  unfold refOut
  pointwise

/-- Where block `c` of the result lies in the whole. -/
theorem out_idx (h : Layout.Tiles ⟨3, ![2, 512, 8192]⟩ ⟨3, ![2, 4096, 8192]⟩ 1 8) (c : Fin 8) (b : Fin 2) (r : Fin 512) (n : Fin 8192) :
    h.idx c (ix3 b r n) = ix3 b ⟨c.val * 512 + r.val, row_lt c r⟩ n := by
  funext a
  match a with | ⟨0, _⟩ => rfl | ⟨1, _⟩ => rfl | ⟨2, _⟩ => rfl

theorem col_lt (d : Fin 8) (k : Fin 1024) : d.val * 1024 + k.val < 8192 := by
  have := d.isLt
  have := k.isLt
  omega

/-- Where block `d` of `O` lies in the whole. -/
theorem o_idx (h : Layout.Tiles ⟨4, ![2, 8, 512, 1024]⟩ ⟨4, ![2, 8, 512, 8192]⟩ 3 8) (d : Fin 8) (b : Fin 2) (j : Fin 8) (r : Fin 512)
    (k : Fin 1024) : h.idx d (ix4 b j r k) = ix4 b j r ⟨d.val * 1024 + k.val, col_lt d k⟩ := by
  funext a
  match a with | ⟨0, _⟩ => rfl | ⟨1, _⟩ => rfl | ⟨2, _⟩ => rfl | ⟨3, _⟩ => rfl

/-- Where block `d` of `W` lies in the whole. -/
theorem w_idx (h : Layout.Tiles ⟨2, ![1024, 8192]⟩ ⟨2, ![8192, 8192]⟩ 0 8) (d : Fin 8) (k : Fin 1024) (n : Fin 8192) :
    h.idx d (ix2 k n) = ix2 ⟨d.val * 1024 + k.val, col_lt d k⟩ n := by
  funext a
  match a with | ⟨0, _⟩ => rfl | ⟨1, _⟩ => rfl

/-- Block `c` of the reference's result, at an index: the sum over the devices of the sums over their columns of `O`. -/
theorem block_ref (x : FVec Ideal S2x8x512x8192 .f32) (w : FVec Ideal S8192x8192 .bf16) (c : Fin 8) (b : Fin 2) (r : Fin 512) (n : Fin 8192) :
    Layout.block ⟨3, ![2, 512, 8192]⟩ ⟨3, ![2, 4096, 8192]⟩ 1 8 c (refOut x w) (by decide) (ix3 b r n)
      = ∑ d : Fin 8, ∑ k : Fin 1024,
          Layout.block ⟨4, ![2, 8, 512, 1024]⟩ ⟨4, ![2, 8, 512, 8192]⟩ 3 8 d x (by decide) (ix4 b c r k)
            * Layout.block ⟨2, ![1024, 8192]⟩ ⟨2, ![8192, 8192]⟩ 0 8 d w (by decide) (ix2 k n) := by
  simp only [Layout.block_apply]
  rw [out_idx, ref_apply, Fin.sum_univ_tiles 8 1024 (by decide)]
  refine Finset.sum_congr rfl fun d _ => Finset.sum_congr rfl fun k _ => ?_
  rw [o_idx, w_idx]

end Cert.Proof.R

end
-- ==== Proof.Value.lean ====
/-
  The value equation: over the extended reals, what device `c` leaves is block `c` of the reference's product, when each
  device holds its block of the two arguments.
-/
module

public import proofs.«01_k».proof.Proof.Partial
public import proofs.«01_k».proof.Proof.Ref

@[expose] public section

noncomputable section

namespace Cert.Proof.K

open Cert.KernelIdeal Cert.KernelIdeal.Gen
open Idealize.ShloMosaic Idealize.ShloMosaic.TcCoe

theorem out_eq_block (m : (ℓ : Loc nD τ sig) → Buf (Elt Ideal) ℓ) (x : FVec Ideal Cert.ReferenceIdeal.S2x8x512x8192 .f32)
    (w : FVec Ideal Cert.ReferenceIdeal.S8192x8192 .bf16)
    (hx : ∀ d : Dev nD, oIn m d = Layout.block ⟨4, ![2, 8, 512, 1024]⟩ ⟨4, ![2, 8, 512, 8192]⟩ 3 8 d x)
    (hw : ∀ d : Dev nD, wIn m d = Layout.block ⟨2, ![1024, 8192]⟩ ⟨2, ![8192, 8192]⟩ 0 8 d w) (c : Dev nD) :
    outF m c = Layout.block ⟨3, ![2, 512, 8192]⟩ ⟨3, ![2, 4096, 8192]⟩ 1 8 c (Cert.Proof.R.refOut x w) := by
  funext i
  obtain ⟨b, r, n, rfl⟩ : ∃ (b : Fin 2) (r : Fin 512) (n : Fin 8192), i = ix3 b r n := ⟨i 0, i 1, i 2, eq_ix3 i⟩
  rw [out_apply, Cert.Proof.R.block_ref]
  refine Finset.sum_congr rfl fun d _ => ?_
  rw [vb_apply, hx d, hw d]

end Cert.Proof.K

end
-- ==== Proof.lean ====
/-
  The proof of the certificate's claims: the run of the ring kernel over any float values gives both frames and, over the
  extended reals, each device's result; the run of the reference gives the whole product; the two are equal block by block.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value

@[expose] public section

noncomputable section

namespace Cert.Proof

open Idealize.ShloMosaic Idealize.SL.Sem

/-- The kernel over the extended reals runs to the end and leaves its arguments as they were. -/
theorem frame_kernelIdeal : Cert.quiescent_KernelIdeal := fun m ρ _ =>
  (θ_run Cert.KernelIdeal.defs _ _).mono (fun _ h => ⟨fun c => ⟨(h.1 c).1, (h.1 c).2.1⟩, h.2⟩) (K.run_main (F := Ideal) m ρ)

/-- So does the kernel over the bit-exact floats: the two programs have the same text. -/
theorem frame_kernel : Cert.quiescent_Kernel := fun m ρ _ =>
  (θ_run Cert.KernelIdeal.defs _ _).mono (fun _ h => ⟨fun c => ⟨(h.1 c).1, (h.1 c).2.1⟩, h.2⟩) (K.run_main (F := Bits) m ρ)

/-- The reference runs to the end and leaves its arguments as they were. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device's result is its block of the reference's. -/
theorem algebraic : Cert.algebraic_KernelIdeal_ReferenceIdeal := fun m ρ m' ρ' _ hargs =>
  ⟨R.refOut (m' (((0 : Dev Cert.ReferenceIdeal.nD).tc : Thread _ _).loc Cert.ReferenceIdeal.main_arg0))
      (m' (((0 : Dev Cert.ReferenceIdeal.nD).tc : Thread _ _).loc Cert.ReferenceIdeal.main_arg1)),
    (θ_run Cert.KernelIdeal.defs _ _).mono
      (fun _ h c => ⟨((h.1 c).2.2).trans (K.out_eq_block m _ _ (fun d => (hargs d).1) (fun d => (hargs d).2) c), (h.1 c).1, (h.1 c).2.1⟩)
      (K.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, frame_kernel, frame_kernelIdeal,
    frame_referenceIdeal, trivial, algebraic⟩

end Cert.Proof

end
